-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S4x512x128 : Shape := ⟨3, ![4, 512, 128]⟩
abbrev S4x128x512 : Shape := ⟨3, ![4, 128, 512]⟩
abbrev S12 : Shape := ⟨1, ![12]⟩
abbrev S_ : Shape := ⟨0, ![]⟩
abbrev S512x128 : Shape := ⟨2, ![512, 128]⟩
abbrev S1x512x128 : Shape := ⟨3, ![1, 512, 128]⟩
abbrev S128x512 : Shape := ⟨2, ![128, 512]⟩
abbrev S1x128x512 : Shape := ⟨3, ![1, 128, 512]⟩
abbrev S1 : Shape := ⟨1, ![1]⟩
abbrev S2x128x12x64 : Shape := ⟨4, ![2, 128, 12, 64]⟩
abbrev S2x128x4x64 : Shape := ⟨4, ![2, 128, 4, 64]⟩
abbrev S2x128x8x64 : Shape := ⟨4, ![2, 128, 8, 64]⟩
abbrev S128x128 : Shape := ⟨2, ![128, 128]⟩
abbrev S256x128 : Shape := ⟨2, ![256, 128]⟩
abbrev S128x64 : Shape := ⟨2, ![128, 64]⟩
abbrev S1x128x1x64 : Shape := ⟨4, ![1, 128, 1, 64]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x16x64, .f32⟩
  | .local _ .vmem, ⟨3, _⟩ => ⟨S2x128x16x64, .f32⟩
  | .local _ .vmem, ⟨4, _⟩ => ⟨S256x512, .f32⟩
  | .local _ .vmem, ⟨5, _⟩ => ⟨S2x128x512, .f32⟩
  | .local _ .vmem, ⟨6, _⟩ => ⟨S4x512x128, .bf16⟩
  | .local _ .vmem, ⟨7, _⟩ => ⟨S4x128x512, .bf16⟩
  | .local _ .vmem, ⟨8, _⟩ => ⟨S4x512x128, .bf16⟩
  | .local _ .vmem, ⟨9, _⟩ => ⟨S4x128x512, .bf16⟩
  | .local _ .vmem, ⟨10, _⟩ => ⟨S2x128x16x64, .f32⟩
  | .local _ .vmem, ⟨11, _⟩ => ⟨S2x128x16x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v35 : BitVec 32 := Scalar.muli v7 c1_i32_29
  let v36 : BitVec 32 := Scalar.addi c0_i32_30 v35
  v36.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_39 : BitVec 32 := 1#32
  let v45 : BitVec 32 := Scalar.muli v7 c1_i32_39
  let v46 : BitVec 32 := Scalar.addi c0_i32_40 v45
  v46.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_49 : BitVec 32 := 1#32
  let v55 : BitVec 32 := Scalar.muli v5 c1_i32_49
  let v56 : BitVec 32 := Scalar.addi c0_i32_50 v55
  v56.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v65 : BitVec 32 := Scalar.muli v5 c1_i32_58
  let v66 : BitVec 32 := Scalar.addi c0_i32_59 v65
  v66.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_68 : BitVec 32 := 1#32
  let v75 : BitVec 32 := Scalar.muli v7 c1_i32_68
  let v76 : BitVec 32 := Scalar.addi c0_i32_69 v75
  v76.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_77 : BitVec 32 := 1#32
  let v85 : BitVec 32 := Scalar.muli v7 c1_i32_77
  let v86 : BitVec 32 := Scalar.addi c0_i32_78 v85
  v86.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_86 : BitVec 32 := 1#32
  let v95 : BitVec 32 := Scalar.muli v5 c1_i32_86
  let v96 : BitVec 32 := Scalar.addi c0_i32_87 v95
  v96.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v105 : BitVec 32 := Scalar.muli v5 c1_i32_95
  let v106 : BitVec 32 := Scalar.addi c0_i32_96 v105
  v106.toNat
def k0_dev11 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_244 : BitVec 32 := 1#32
  let v345 : BitVec 32 := Scalar.muli v7 c1_i32_244
  let v346 : BitVec 32 := Scalar.addi c0_i32_245 v345
  v346.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_263 : BitVec 32 := 1#32
  let v363 : BitVec 32 := Scalar.muli v7 c1_i32_263
  let v364 : BitVec 32 := Scalar.addi c0_i32_264 v363
  v364.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_282 : BitVec 32 := 1#32
  let v381 : BitVec 32 := Scalar.muli v5 c1_i32_282
  let v382 : BitVec 32 := Scalar.addi c0_i32_283 v381
  v382.toNat
def k0_dev14 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_301 : BitVec 32 := 1#32
  let v399 : BitVec 32 := Scalar.muli v5 c1_i32_301
  let v400 : BitVec 32 := Scalar.addi c0_i32_302 v399
  v400.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x1024 : Shape := ⟨2, ![512, 1024]⟩
abbrev S2x128x16x64 : Shape := ⟨4, ![2, 128, 16, 64]⟩
abbrev S1024x512 : Shape := ⟨2, ![1024, 512]⟩
abbrev S2x512x1024 : Shape := ⟨3, ![2, 512, 1024]⟩
abbrev S2x512x16x64 : Shape := ⟨4, ![2, 512, 16, 64]⟩
abbrev S512 : Shape := ⟨1, ![512]⟩
abbrev S_ : Shape := ⟨0, ![]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S2x16x512x128 : Shape := ⟨4, ![2, 16, 512, 128]⟩
abbrev S1x1x512x128 : Shape := ⟨4, ![1, 1, 512, 128]⟩
abbrev S2x16x512 : Shape := ⟨3, ![2, 16, 512]⟩
abbrev S2x16x512x1 : Shape := ⟨4, ![2, 16, 512, 1]⟩
abbrev S1x1x512x1 : Shape := ⟨4, ![1, 1, 512, 1]⟩
abbrev S2x16x64x512 : Shape := ⟨4, ![2, 16, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x512x1024, .f32⟩
  | .hbm, ⟨6, _⟩ => ⟨S2x512x16x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S512x128, .i32⟩
  | .hbm, ⟨48, _⟩ => ⟨S512x128, .i32⟩
  | .hbm, ⟨49, _⟩ => ⟨S512x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S512x128, .i1⟩
  | .hbm, ⟨54, _⟩ => ⟨S512x128, .i1⟩
  | .hbm, ⟨55, _⟩ => ⟨S512x128, .i32⟩
  | .hbm, ⟨56, _⟩ => ⟨S512x128, .i32⟩
  | .hbm, ⟨57, _⟩ => ⟨S512x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x128, .i32⟩
  | .hbm, ⟨65, _⟩ => ⟨S512x128, .i32⟩
  | .hbm, ⟨66, _⟩ => ⟨S_, .i32⟩
  | .hbm, ⟨67, _⟩ => ⟨S512x128, .i32⟩
  | .hbm, ⟨68, _⟩ => ⟨S512x128, .i1⟩
  | .hbm, ⟨69, _⟩ => ⟨S_, .i32⟩
  | .hbm, ⟨70, _⟩ => ⟨S512x128, .i32⟩
  | .hbm, ⟨71, _⟩ => ⟨S512x128, .i1⟩
  | .hbm, ⟨72, _⟩ => ⟨S_, .i32⟩
  | .hbm, ⟨73, _⟩ => ⟨S_, .i1⟩
  | .hbm, ⟨74, _⟩ => ⟨S512x128, .i1⟩
  | .hbm, ⟨75, _⟩ => ⟨S512x128, .i1⟩
  | .hbm, ⟨76, _⟩ => ⟨S512x128, .i1⟩
  | .hbm, ⟨77, _⟩ => ⟨S512x128, .i32⟩
  | .hbm, ⟨78, _⟩ => ⟨S512x128, .i32⟩
  | .hbm, ⟨79, _⟩ => ⟨S512x128, .i32⟩
  | .hbm, ⟨80, _⟩ => ⟨S_, .i32⟩
  | .hbm, ⟨81, _⟩ => ⟨S512x128, .i32⟩
  | .hbm, ⟨82, _⟩ => ⟨S512x128, .i1⟩
  | .hbm, ⟨83, _⟩ => ⟨S512x128, .i1⟩
  | .hbm, ⟨84, _⟩ => ⟨S2x16x512x128, .f32⟩
  | .hbm, ⟨85, _⟩ => ⟨S_, .f32⟩
  | .hbm, ⟨86, _⟩ => ⟨S2x16x512x128, .f32⟩
  | .hbm, ⟨87, _⟩ => ⟨S2x16x512x128, .f32⟩
  | .hbm, ⟨88, _⟩ => ⟨S1x1x512x128, .i1⟩
  | .hbm, ⟨89, _⟩ => ⟨S_, .f32⟩
  | .hbm, ⟨90, _⟩ => ⟨S_, .f32⟩
  | .hbm, ⟨91, _⟩ => ⟨S2x16x512x128, .i1⟩
  | .hbm, ⟨92, _⟩ => ⟨S2x16x512x128, .f32⟩
  | .hbm, ⟨93, _⟩ => ⟨S2x16x512x128, .f32⟩
  | .hbm, ⟨94, _⟩ => ⟨S_, .f32⟩
  | .hbm, ⟨95, _⟩ => ⟨S2x16x512, .f32⟩
  | .hbm, ⟨96, _⟩ => ⟨S2x16x512x1, .f32⟩
  | .hbm, ⟨97, _⟩ => ⟨S2x16x512x128, .f32⟩
  | .hbm, ⟨98, _⟩ => ⟨S2x16x512x128, .f32⟩
  | .hbm, ⟨99, _⟩ => ⟨S2x16x512x128, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x16x512, .f32⟩
  | .hbm, ⟨105, _⟩ => ⟨S2x16x512x1, .f32⟩
  | .hbm, ⟨106, _⟩ => ⟨S_, .f32⟩
  | .hbm, ⟨107, _⟩ => ⟨S_, .f32⟩
  | .hbm, ⟨108, _⟩ => ⟨S2x16x512x1, .i1⟩
  | .hbm, ⟨109, _⟩ => ⟨S2x16x512x1, .f32⟩
  | .hbm, ⟨110, _⟩ => ⟨S2x16x512x1, .f32⟩
  | .hbm, ⟨111, _⟩ => ⟨S2x16x512x128, .f32⟩
  | .hbm, ⟨112, _⟩ => ⟨S2x16x512x128, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x16x512x128, .i1⟩
  | .hbm, ⟨117, _⟩ => ⟨S2x16x512x128, .f32⟩
  | .hbm, ⟨118, _⟩ => ⟨S2x16x512x128, .f32⟩
  | .hbm, ⟨119, _⟩ => ⟨S2x16x64x512, .f32⟩
  | .hbm, ⟨120, _⟩ => ⟨S2x512x16x64, .f32⟩
  | .hbm, ⟨121, _⟩ => ⟨S2x512x1024, .f32⟩
  | .hbm, ⟨122, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Slots.lean ====
/-
The four devices in a ring, the buffers the pieces of the two projections travel through, and what
each buffer holds once every piece has arrived.

Each device cuts its block of `Wq` by columns and its block of `Wo` by rows into the halves A and B.
A buffer has four slots: the device's own half, the one of the device to its left, the one of the
device to its right, and the one of the device opposite.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- Two steps to the left are two steps to the right. -/
theorem prv_prv (c : Dev nD) : prv (prv c) = nxt (nxt c) := by revert c; decide

/-- A step round the ring, as a bijection. -/
def ring : Dev nD ≃ Dev nD := ⟨nxt, prv, prv_nxt, nxt_prv⟩

/-- The device whose piece slot `s` of device `c` holds. -/
def srcDev (c : Dev nD) (s : Fin 4) : Dev nD := match s with
  | 0 => c | 1 => prv c | 2 => nxt c | 3 => nxt (nxt c)

/-! ## The buffers and their slots -/

abbrev wqA : Memref sig .tc .vmem S4x512x128 .bf16 := Memref.whole cc0_scratch0
abbrev woA : Memref sig .tc .vmem S4x128x512 .bf16 := Memref.whole cc0_scratch1
abbrev wqB : Memref sig .tc .vmem S4x512x128 .bf16 := Memref.whole cc0_scratch2
abbrev woB : Memref sig .tc .vmem S4x128x512 .bf16 := Memref.whole cc0_scratch3
abbrev kM : Memref sig .tc .vmem S2x128x16x64 .f32 := Memref.whole cc0_scratch4
abbrev vM : Memref sig .tc .vmem S2x128x16x64 .f32 := Memref.whole cc0_scratch5
abbrev xS : Memref sig .tc .vmem S2x128x512 .f32 := Memref.whole cc0_stg0_0
abbrev wqS : Memref sig .tc .vmem S512x256 .f32 := Memref.whole cc0_stg1_0
abbrev kS : Memref sig .tc .vmem S2x128x16x64 .f32 := Memref.whole cc0_stg2_0
abbrev vS : Memref sig .tc .vmem S2x128x16x64 .f32 := Memref.whole cc0_stg3_0
abbrev woS : Memref sig .tc .vmem S256x512 .f32 := Memref.whole cc0_stg4_0
abbrev oS : Memref sig .tc .vmem S2x128x512 .f32 := Memref.whole cc0_stg5_0

/-- The rectangle of slot 0, 1, 2 or 3 of a buffer of `Wq` pieces. -/
abbrev q0 : Rect S4x512x128 := Rect.unit (s := S4x512x128) ![0, 0, 0] S1x512x128.size inb_S4x512x128_S1x512x128_0_0_0
abbrev q1 : Rect S4x512x128 := Rect.unit (s := S4x512x128) ![1, 0, 0] S1x512x128.size inb_S4x512x128_S1x512x128_1_0_0
abbrev q2 : Rect S4x512x128 := Rect.unit (s := S4x512x128) ![2, 0, 0] S1x512x128.size inb_S4x512x128_S1x512x128_2_0_0
abbrev q3 : Rect S4x512x128 := Rect.unit (s := S4x512x128) ![3, 0, 0] S1x512x128.size inb_S4x512x128_S1x512x128_3_0_0
/-- The same of a buffer of `Wo` pieces. -/
abbrev o0 : Rect S4x128x512 := Rect.unit (s := S4x128x512) ![0, 0, 0] S1x128x512.size inb_S4x128x512_S1x128x512_0_0_0
abbrev o1 : Rect S4x128x512 := Rect.unit (s := S4x128x512) ![1, 0, 0] S1x128x512.size inb_S4x128x512_S1x128x512_1_0_0
abbrev o2 : Rect S4x128x512 := Rect.unit (s := S4x128x512) ![2, 0, 0] S1x128x512.size inb_S4x128x512_S1x128x512_2_0_0
abbrev o3 : Rect S4x128x512 := Rect.unit (s := S4x128x512) ![3, 0, 0] S1x128x512.size inb_S4x128x512_S1x128x512_3_0_0

/-- A slot of a buffer of `Wq` pieces as the copies name it. -/
abbrev qS0 (M : Memref sig .tc .vmem S4x512x128 .bf16) : Memref sig .tc .vmem S512x128 .bf16 := (M.slice q0 (fun _ => rfl)).squeeze S512x128 squeezes_S1x512x128_S512x128
abbrev qS1 (M : Memref sig .tc .vmem S4x512x128 .bf16) : Memref sig .tc .vmem S512x128 .bf16 := (M.slice q1 (fun _ => rfl)).squeeze S512x128 squeezes_S1x512x128_S512x128
abbrev qS2 (M : Memref sig .tc .vmem S4x512x128 .bf16) : Memref sig .tc .vmem S512x128 .bf16 := (M.slice q2 (fun _ => rfl)).squeeze S512x128 squeezes_S1x512x128_S512x128
abbrev qS3 (M : Memref sig .tc .vmem S4x512x128 .bf16) : Memref sig .tc .vmem S512x128 .bf16 := (M.slice q3 (fun _ => rfl)).squeeze S512x128 squeezes_S1x512x128_S512x128
/-- A slot of a buffer of `Wo` pieces as the copies name it. -/
abbrev oS0 (M : Memref sig .tc .vmem S4x128x512 .bf16) : Memref sig .tc .vmem S128x512 .bf16 := (M.slice o0 (fun _ => rfl)).squeeze S128x512 squeezes_S1x128x512_S128x512
abbrev oS1 (M : Memref sig .tc .vmem S4x128x512 .bf16) : Memref sig .tc .vmem S128x512 .bf16 := (M.slice o1 (fun _ => rfl)).squeeze S128x512 squeezes_S1x128x512_S128x512
abbrev oS2 (M : Memref sig .tc .vmem S4x128x512 .bf16) : Memref sig .tc .vmem S128x512 .bf16 := (M.slice o2 (fun _ => rfl)).squeeze S128x512 squeezes_S1x128x512_S128x512
abbrev oS3 (M : Memref sig .tc .vmem S4x128x512 .bf16) : Memref sig .tc .vmem S128x512 .bf16 := (M.slice o3 (fun _ => rfl)).squeeze S128x512 squeezes_S1x128x512_S128x512

/-! ## What the slots hold -/

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- The five inputs as the kernel finds them staged. -/
def xIn (c : Dev nD) : (cc0_stg0_0 : Ref sig .tc).ty.Contents (Elt F) := (win0_0.blk (0 : Fin 1)).view.read (Elt F) (m ((c : Thread nD τ).loc main_arg0))
def wqIn (c : Dev nD) : (cc0_stg1_0 : Ref sig .tc).ty.Contents (Elt F) := (win0_1.blk (0 : Fin 1)).view.read (Elt F) (m ((c : Thread nD τ).loc main_arg1))
def kIn (c : Dev nD) : (cc0_stg2_0 : Ref sig .tc).ty.Contents (Elt F) := (win0_2.blk (0 : Fin 1)).view.read (Elt F) (m ((c : Thread nD τ).loc main_arg2))
def vIn (c : Dev nD) : (cc0_stg3_0 : Ref sig .tc).ty.Contents (Elt F) := (win0_3.blk (0 : Fin 1)).view.read (Elt F) (m ((c : Thread nD τ).loc main_arg3))
def woIn (c : Dev nD) : (cc0_stg4_0 : Ref sig .tc).ty.Contents (Elt F) := (win0_4.blk (0 : Fin 1)).view.read (Elt F) (m ((c : Thread nD τ).loc main_arg4))

/-- Half A and half B of device `d`'s block of `Wq`, and of `Wo`. -/
def wqAp (d : Dev nD) : FVec F S1x512x128 .bf16 := k0_pay3 (wqIn m d)
def wqBp (d : Dev nD) : FVec F S1x512x128 .bf16 := k0_pay4 (wqIn m d)
def woAp (d : Dev nD) : FVec F S1x128x512 .bf16 := k0_pay6 (k0_pay5 (woIn m d))
def woBp (d : Dev nD) : FVec F S1x128x512 .bf16 := k0_pay7 (k0_pay2 (woIn m d))

/-- The place of an element of a buffer inside its slot. -/
def lowQ (i : S4x512x128.Idx) : S1x512x128.Idx := fun | 0 => (0 : Fin 1) | 1 => (i 1 : Fin 512) | 2 => (i 2 : Fin 128)
def lowO (i : S4x128x512.Idx) : S1x128x512.Idx := fun | 0 => (0 : Fin 1) | 1 => (i 1 : Fin 128) | 2 => (i 2 : Fin 512)

/-- The buffers of device `c` once every piece has arrived. -/
def fqA (c : Dev nD) : (cc0_scratch0 : Ref sig .tc).ty.Contents (Elt F) := fun i => wqAp m (srcDev c (i 0)) (lowQ i)
def foA (c : Dev nD) : (cc0_scratch1 : Ref sig .tc).ty.Contents (Elt F) := fun i => woAp m (srcDev c (i 0)) (lowO i)
def fqB (c : Dev nD) : (cc0_scratch2 : Ref sig .tc).ty.Contents (Elt F) := fun i => wqBp m (srcDev c (i 0)) (lowQ i)
def foB (c : Dev nD) : (cc0_scratch3 : Ref sig .tc).ty.Contents (Elt F) := fun i => woBp m (srcDev c (i 0)) (lowO i)

/-! ## Which elements a slot is -/

/-- An element of slot `s` has first coordinate `s`. -/
theorem mem_q (s : ℕ) (hs : ∀ a, (![s, 0, 0] : Fin 3 → Nat) a + S1x512x128.size a ≤ S4x512x128.size a) (i : S4x512x128.Idx) :
    i ∈ (Rect.unit (s := S4x512x128) ![s, 0, 0] S1x512x128.size hs).set ↔ (i 0).val = s := by
  rw [Rect.mem_set_unit]
  have h1 : (i 1).val < 512 := (i 1).isLt
  have h2 : (i 2).val < 128 := (i 2).isLt
  constructor
  · intro h
    have h0 : s ≤ (i 0).val ∧ (i 0).val < s + 1 := h 0
    omega
  · intro h a
    fin_cases a
    · show s ≤ (i 0).val ∧ (i 0).val < s + 1; omega
    · show 0 ≤ (i 1).val ∧ (i 1).val < 0 + 512; omega
    · show 0 ≤ (i 2).val ∧ (i 2).val < 0 + 128; omega
theorem mem_o (s : ℕ) (hs : ∀ a, (![s, 0, 0] : Fin 3 → Nat) a + S1x128x512.size a ≤ S4x128x512.size a) (i : S4x128x512.Idx) :
    i ∈ (Rect.unit (s := S4x128x512) ![s, 0, 0] S1x128x512.size hs).set ↔ (i 0).val = s := by
  rw [Rect.mem_set_unit]
  have h1 : (i 1).val < 128 := (i 1).isLt
  have h2 : (i 2).val < 512 := (i 2).isLt
  constructor
  · intro h
    have h0 : s ≤ (i 0).val ∧ (i 0).val < s + 1 := h 0
    omega
  · intro h a
    fin_cases a
    · show s ≤ (i 0).val ∧ (i 0).val < s + 1; omega
    · show 0 ≤ (i 1).val ∧ (i 1).val < 0 + 128; omega
    · show 0 ≤ (i 2).val ∧ (i 2).val < 0 + 512; omega

/-- A slot named as a copy names it covers the elements of its rectangle. -/
theorem slot_set {s s' : Shape} (M : Memref sig .tc .vmem s .bf16) (r : Rect s) (h : ∀ a, r.stride a = 1) (hs : r.shape.Squeezes s') :
    ((M.slice r h).squeeze s' hs).view.set = M.view.setOn r.set := by
  refine (View.set_reshape _ _).trans ?_
  exact View.set_slice _ _

/-- The place in its slot of an element given by its place in the slot, and its slot. -/
theorem lowQ_emb (s : ℕ) (hs : ∀ a, (![s, 0, 0] : Fin 3 → Nat) a + S1x512x128.size a ≤ S4x512x128.size a) (y : S1x512x128.Idx) :
    lowQ ((Rect.unit (s := S4x512x128) ![s, 0, 0] S1x512x128.size hs).emb y) = y := by
  have h0 : (y 0).val < 1 := (y 0).isLt
  funext a
  apply Fin.ext
  fin_cases a
  · show 0 = (y 0).val; omega
  · show 0 + 1 * (y 1).val = (y 1).val; omega
  · show 0 + 1 * (y 2).val = (y 2).val; omega
theorem lowO_emb (s : ℕ) (hs : ∀ a, (![s, 0, 0] : Fin 3 → Nat) a + S1x128x512.size a ≤ S4x128x512.size a) (y : S1x128x512.Idx) :
    lowO ((Rect.unit (s := S4x128x512) ![s, 0, 0] S1x128x512.size hs).emb y) = y := by
  have h0 : (y 0).val < 1 := (y 0).isLt
  funext a
  apply Fin.ext
  fin_cases a
  · show 0 = (y 0).val; omega
  · show 0 + 1 * (y 1).val = (y 1).val; omega
  · show 0 + 1 * (y 2).val = (y 2).val; omega
theorem slotQ_emb (s : Fin 4) (hs : ∀ a, (![s.val, 0, 0] : Fin 3 → Nat) a + S1x512x128.size a ≤ S4x512x128.size a) (y : S1x512x128.Idx) :
    ((Rect.unit (s := S4x512x128) ![s.val, 0, 0] S1x512x128.size hs).emb y) 0 = s := by
  have h0 : (y 0).val < 1 := (y 0).isLt
  apply Fin.ext
  show s.val + 1 * (y 0).val = s.val; omega
theorem slotO_emb (s : Fin 4) (hs : ∀ a, (![s.val, 0, 0] : Fin 3 → Nat) a + S1x128x512.size a ≤ S4x128x512.size a) (y : S1x128x512.Idx) :
    ((Rect.unit (s := S4x128x512) ![s.val, 0, 0] S1x128x512.size hs).emb y) 0 = s := by
  have h0 : (y 0).val < 1 := (y 0).isLt
  apply Fin.ext
  show s.val + 1 * (y 0).val = s.val; omega

/-- What a full buffer holds in slot `s`, at a place in the slot: the piece of the device the slot is for. -/
theorem fqA_emb (c : Dev nD) (s : Fin 4) (hs : ∀ a, (![s.val, 0, 0] : Fin 3 → Nat) a + S1x512x128.size a ≤ S4x512x128.size a) (y : S1x512x128.Idx) :
    fqA m c ((Rect.unit (s := S4x512x128) ![s.val, 0, 0] S1x512x128.size hs).emb y) = wqAp m (srcDev c s) y := by
  unfold fqA; rw [slotQ_emb, lowQ_emb]
theorem fqB_emb (c : Dev nD) (s : Fin 4) (hs : ∀ a, (![s.val, 0, 0] : Fin 3 → Nat) a + S1x512x128.size a ≤ S4x512x128.size a) (y : S1x512x128.Idx) :
    fqB m c ((Rect.unit (s := S4x512x128) ![s.val, 0, 0] S1x512x128.size hs).emb y) = wqBp m (srcDev c s) y := by
  unfold fqB; rw [slotQ_emb, lowQ_emb]
theorem foA_emb (c : Dev nD) (s : Fin 4) (hs : ∀ a, (![s.val, 0, 0] : Fin 3 → Nat) a + S1x128x512.size a ≤ S4x128x512.size a) (y : S1x128x512.Idx) :
    foA m c ((Rect.unit (s := S4x128x512) ![s.val, 0, 0] S1x128x512.size hs).emb y) = woAp m (srcDev c s) y := by
  unfold foA; rw [slotO_emb, lowO_emb]
theorem foB_emb (c : Dev nD) (s : Fin 4) (hs : ∀ a, (![s.val, 0, 0] : Fin 3 → Nat) a + S1x128x512.size a ≤ S4x128x512.size a) (y : S1x128x512.Idx) :
    foB m c ((Rect.unit (s := S4x128x512) ![s.val, 0, 0] S1x128x512.size hs).emb y) = woBp m (srcDev c s) y := by
  unfold foB; rw [slotO_emb, lowO_emb]

end Cert.RingAttn

end
-- ==== Proof.Protocol.lean ====
/-
The protocol of the exchange: the cells of each device — the runtime's barrier, a send and a receive
semaphore for each of the twelve copies — what each unit on a cell hands over, who pays it, and the order
in which the cells are waited for.
-/
module

public import proofs.«01_k».proof.Proof.Slots

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The copies -/

/-- Copy `i` goes to the right neighbour, or else to the left one. -/
def goesRight (i : Fin 12) : Bool := match i with
  | 0 | 1 | 4 | 5 | 8 | 9 => true
  | _ => false
/-- The device copy `i` of device `c` goes to. -/
def dst (c : Dev nD) (i : Fin 12) : Dev nD := bif goesRight i then nxt c else prv c
/-- The device copy `i` into device `c` comes from. -/
def org (c : Dev nD) (i : Fin 12) : Dev nD := bif goesRight i then prv c else nxt c

theorem dst_org (c : Dev nD) (i : Fin 12) : dst (org c i) i = c := by
  unfold dst org; cases goesRight i
  · exact prv_nxt c
  · exact nxt_prv c
theorem org_dst (c : Dev nD) (i : Fin 12) : org (dst c i) i = c := by
  unfold dst org; cases goesRight i
  · exact nxt_prv c
  · exact prv_nxt c

/-- The elements of a rectangle of a buffer of device `c`, at a share, holding `f`. -/
def At {s : Shape} {e : EltTy} (c : Dev nD) (M : Memref sig .tc .vmem s e) (r : Rect s) (q : PosShare TreeShare)
    (f : Buf (Elt F) (M.view.loc (c : Thread nD τ))) : sProp 𝕄 :=
  M.view.loc (c : Thread nD τ) ↦[M.view.setOn r.set]{q} f

omit [FloatOps F] in
instance At_storable {s : Shape} {e : EltTy} (c : Dev nD) (M : Memref sig .tc .vmem s e) (r : Rect s) (q : PosShare TreeShare) (f) :
    BI.Storable (upEmb : UEmb _ 𝕄) (At (F := F) c M r q f) := by unfold At; infer_instance

/-- The share of a device's own slot lent to its first and to its second copy, and the one kept for reading. -/
abbrev lent1 : PosShare TreeShare := (fullShare : PosShare TreeShare).left.left
abbrev lent2 : PosShare TreeShare := (fullShare : PosShare TreeShare).left.right
abbrev lent : PosShare TreeShare := (fullShare : PosShare TreeShare).left
abbrev kept : PosShare TreeShare := (fullShare : PosShare TreeShare).right

/-- The elements copy `i` of device `c` reads, at the share lent to it. -/
def sendPay (c : Dev nD) (i : Fin 12) : sProp 𝕄 := match i with
  | 0 => At c wqA q0 lent1 (fqA m c)
  | 1 => At c woA o0 lent1 (foA m c)
  | 2 => At c wqB q0 lent1 (fqB m c)
  | 3 => At c woB o0 lent1 (foB m c)
  | 4 => At c wqB q0 lent2 (fqB m c)
  | 5 => At c woB o0 lent2 (foB m c)
  | 6 => At c wqA q0 lent2 (fqA m c)
  | 7 => At c woA o0 lent2 (foA m c)
  | 8 => At c wqA q1 lent (fqA m c)
  | 9 => At c woA o1 lent (foA m c)
  | 10 => At c wqB q2 lent (fqB m c)
  | 11 => At c woB o2 lent (foB m c)

/-- The elements copy `i` into device `c` has filled. -/
def recvPay (c : Dev nD) (i : Fin 12) : sProp 𝕄 := match i with
  | 0 => At c wqA q1 fullShare (fqA m c)
  | 1 => At c woA o1 fullShare (foA m c)
  | 2 => At c wqB q2 fullShare (fqB m c)
  | 3 => At c woB o2 fullShare (foB m c)
  | 4 => At c wqB q1 fullShare (fqB m c)
  | 5 => At c woB o1 fullShare (foB m c)
  | 6 => At c wqA q2 fullShare (fqA m c)
  | 7 => At c woA o2 fullShare (foA m c)
  | 8 => At c wqA q3 fullShare (fqA m c)
  | 9 => At c woA o3 fullShare (foA m c)
  | 10 => At c wqB q3 fullShare (fqB m c)
  | 11 => At c woB o3 fullShare (foB m c)

/-- The elements copy `i` into device `c` is to fill. -/
def room (c : Dev nD) (i : Fin 12) : sProp 𝕄 := match i with
  | 0 => iprop(∃ f, At c wqA q1 fullShare f)
  | 1 => iprop(∃ f, At c woA o1 fullShare f)
  | 2 => iprop(∃ f, At c wqB q2 fullShare f)
  | 3 => iprop(∃ f, At c woB o2 fullShare f)
  | 4 => iprop(∃ f, At c wqB q1 fullShare f)
  | 5 => iprop(∃ f, At c woB o1 fullShare f)
  | 6 => iprop(∃ f, At c wqA q2 fullShare f)
  | 7 => iprop(∃ f, At c woA o2 fullShare f)
  | 8 => iprop(∃ f, At c wqA q3 fullShare f)
  | 9 => iprop(∃ f, At c woA o3 fullShare f)
  | 10 => iprop(∃ f, At c wqB q3 fullShare f)
  | 11 => iprop(∃ f, At c woB o3 fullShare f)

omit [FloatOps F] in
instance room_storable (c : Dev nD) (i : Fin 12) : BI.Storable (upEmb : UEmb _ 𝕄) (room (F := F) c i) := by
  fin_cases i <;> (dsimp only [room]; infer_instance)
instance sendPay_storable (c : Dev nD) (i : Fin 12) : BI.Storable (upEmb : UEmb _ 𝕄) (sendPay (F := F) m c i) := by
  fin_cases i <;> (dsimp only [sendPay]; infer_instance)
instance recvPay_storable (c : Dev nD) (i : Fin 12) : BI.Storable (upEmb : UEmb _ 𝕄) (recvPay (F := F) m c i) := by
  fin_cases i <;> (dsimp only [recvPay]; infer_instance)

/-- What the right neighbour's signal hands over: its room for the copies that go right; -/
def roomR (d : Dev nD) : sProp 𝕄 := iprop(room d 0 ∗ room d 1 ∗ room d 4 ∗ room d 5 ∗ room d 8 ∗ room d 9)
/-- and the left neighbour's: its room for those that go left. -/
def roomL (d : Dev nD) : sProp 𝕄 := iprop(room d 2 ∗ room d 3 ∗ room d 6 ∗ room d 7 ∗ room d 10 ∗ room d 11)

omit [FloatOps F] in
instance roomR_storable (d : Dev nD) : BI.Storable (upEmb : UEmb _ 𝕄) (roomR (F := F) d) := by unfold roomR; infer_instance
omit [FloatOps F] in
instance roomL_storable (d : Dev nD) : BI.Storable (upEmb : UEmb _ 𝕄) (roomL (F := F) d) := by unfold roomL; infer_instance

/-! ## The cells -/

/-- The cells of a device: its barrier, its send cells, its receive cells. -/
abbrev CK : Type := Unit ⊕ (Fin 12 ⊕ Fin 12)

abbrev barS : Sem sig := (SemArray.scalar (sig.barrier 0 rfl) : Sems sig S_).sem
set_option backward.proofsInPublic true in
def sendQ (i : Fin 12) : DmaSem sig := (⟨6 + i.val, by have := i.isLt; omega⟩ : Fin 30)
set_option backward.proofsInPublic true in
def recvQ (i : Fin 12) : DmaSem sig := (⟨18 + i.val, by have := i.isLt; omega⟩ : Fin 30)

def osem : Fin 12 ⊕ Fin 12 → SemLoc sig := fun
  | .inl i => .dma (sendQ i)
  | .inr i => .dma (recvQ i)
def csem : CK → SemLoc sig := fun
  | .inl _ => .reg barS
  | .inr k => osem k

/-- Which cell a semaphore is, if one of these. -/
def dec : SemLoc sig → Option CK := fun
  | .reg s => if s = barS then some (.inl ()) else none
  | .dma q => if h : q.val < 6 then none else if h' : q.val < 18 then some (.inr (.inl ⟨q.val - 6, by omega⟩))
      else some (.inr (.inr ⟨q.val - 18, by have h3 : q.val < 30 := q.isLt; omega⟩))

theorem dec_csem (k : CK) : dec (csem k) = some k := by
  rcases k with ⟨⟩ | i | i
  · rfl
  · fin_cases i <;> rfl
  · fin_cases i <;> rfl

abbrev kcell (ck : Dev nD × CK) : GSem nD τ sig := ((ck.1 : Thread nD τ), csem ck.2)
abbrev barCell (c : Dev nD) : GSem nD τ sig := ((c : Thread nD τ), .reg barS)
abbrev sendCell (c : Dev nD) (i : Fin 12) : GSem nD τ sig := ((c : Thread nD τ), .dma (sendQ i))
abbrev recvCell (c : Dev nD) (i : Fin 12) : GSem nD τ sig := ((c : Thread nD τ), .dma (recvQ i))

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← dec_csem k, ← dec_csem k', h2]
  rw [h1, Option.some.inj h3]

/-- The credit of a piece: those of `Wq` and of `Wo` have one size. -/
def N : ℕ := (qS1 wqA).view.dmaCredit
theorem N_pos : 0 < N := View.dmaCredit_pos _ (by decide)

/-! ## The schedule -/

/-- One round: a barrier cell has two duties of one unit, `true` the right neighbour's and `false` the left one's; a send
    or receive cell the duty `false` of a piece's credit. -/
def sched : Rounds.Schedule (GSem nD τ sig) Bool 𝕄 where
  duties g r := if r = 0 ∧ g.1.2 = .tc then (match dec g.2 with | some (.inl _) => Finset.univ | some (.inr _) => {false} | none => ∅) else ∅
  unitless _ := False
  amount g _ _ := match dec g.2 with | some (.inl _) => 1 | _ => N
  payload g _ d := match dec g.2 with
    | some (.inl _) => bif d then roomR (nxt g.1.1) else roomL (prv g.1.1)
    | some (.inr (.inl i)) => sendPay m g.1.1 i
    | some (.inr (.inr i)) => recvPay m g.1.1 i
    | none => iprop(emp)
  amount_pos g _ _ _ := by
    rcases dec g.2 with _ | _ | _
    · exact N_pos
    · exact Nat.one_pos
    · exact N_pos

instance sched_payload_storable (g : GSem nD τ sig) (r : ℕ) (d : Bool) : BI.Storable (upEmb : UEmb _ 𝕄) ((sched (F := F) m).payload g r d) := by
  show BI.Storable upEmb (match dec g.2 with
    | some (.inl _) => bif d then roomR (nxt g.1.1) else roomL (prv g.1.1)
    | some (.inr (.inl i)) => sendPay m g.1.1 i
    | some (.inr (.inr i)) => recvPay m g.1.1 i
    | none => iprop(emp))
  rcases dec g.2 with _ | _ | _ | _ <;> cases d <;> dsimp only [cond] <;> infer_instance

section Sched
variable (c : Dev nD) (i : Fin 12)

theorem dec_bar : dec (.reg barS) = some (.inl ()) := dec_csem (.inl ())
theorem dec_send : dec (.dma (sendQ i)) = some (.inr (.inl i)) := dec_csem (.inr (.inl i))
theorem dec_recv : dec (.dma (recvQ i)) = some (.inr (.inr i)) := dec_csem (.inr (.inr i))

theorem duties_bar : (sched (F := F) m).duties (barCell c) 0 = Finset.univ := by dsimp only [sched]; rw [if_pos ⟨rfl, rfl⟩, dec_bar]
theorem duties_send : (sched (F := F) m).duties (sendCell c i) 0 = {false} := by dsimp only [sched]; rw [if_pos ⟨rfl, rfl⟩, dec_send]
theorem duties_recv : (sched (F := F) m).duties (recvCell c i) 0 = {false} := by dsimp only [sched]; rw [if_pos ⟨rfl, rfl⟩, dec_recv]
theorem duties_later (g : GSem nD τ sig) : ∀ r, 1 ≤ r → (sched (F := F) m).duties g r = ∅ :=
  fun r hr => by dsimp only [sched]; rw [if_neg fun h => by omega]
theorem amount_bar (d : Bool) : (sched (F := F) m).amount (barCell c) 0 d = 1 := by dsimp only [sched]; rw [dec_bar]
theorem amount_send (d : Bool) : (sched (F := F) m).amount (sendCell c i) 0 d = N := by dsimp only [sched]; rw [dec_send]
theorem amount_recv (d : Bool) : (sched (F := F) m).amount (recvCell c i) 0 d = N := by dsimp only [sched]; rw [dec_recv]
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (sched (F := F) m).expect (sendCell c i) 0 = N := by
  unfold Schedule.expect Schedule.amountOf; rw [duties_send, Finset.sum_singleton, amount_send]
theorem expect_recv : (sched (F := F) m).expect (recvCell c i) 0 = N := by
  unfold Schedule.expect Schedule.amountOf; rw [duties_recv, Finset.sum_singleton, amount_recv]
theorem payload_bar (d : Bool) : (sched (F := F) m).payload (barCell c) 0 d = (bif d then roomR (nxt c) else roomL (prv c)) := by dsimp only [sched]; rw [dec_bar]
theorem payload_send (d : Bool) : (sched (F := F) m).payload (sendCell c i) 0 d = sendPay m c i := by dsimp only [sched]; rw [dec_send]
theorem payload_recv (d : Bool) : (sched (F := F) m).payload (recvCell c i) 0 d = recvPay m c i := by dsimp only [sched]; rw [dec_recv]
theorem rest_bar : bigSep ((sched (F := F) m).duties (barCell c) 0 \ ∅) (fun d => (sched (F := F) m).payload (barCell c) 0 d) = iprop(roomL (prv c) ∗ roomR (nxt c)) := by
  rw [Finset.sdiff_empty, duties_bar, bigSep_univ_eq_bigSepL [false, true] (by decide) (by decide), bigSepL_cons_cons, bigSepL_singleton,
    payload_bar, payload_bar]
  rfl
theorem rest_send : bigSep ((sched (F := F) m).duties (sendCell c i) 0 \ ∅) (fun d => (sched (F := F) m).payload (sendCell c i) 0 d) = sendPay m c i := by
  rw [Finset.sdiff_empty, duties_send, bigSep_singleton, payload_send]
theorem rest_recv : bigSep ((sched (F := F) m).duties (recvCell c i) 0 \ ∅) (fun d => (sched (F := F) m).payload (recvCell c i) 0 d) = recvPay m c i := by
  rw [Finset.sdiff_empty, duties_recv, bigSep_singleton, payload_recv]

end Sched

/-! ## What each device owes, and the levels -/

/-- What device `c` owes for the copies of the list, the head's the last summand. -/
def dues (c : Dev nD) : List (Fin 12) → CellTallies nD τ sig Unit
  | [] => 0
  | i :: l => dues c l + tallyAt (recvCell (dst c i) i) () N
/-- The copies in program order. -/
abbrev allCopies : List (Fin 12) := [0, 1, 2, 3, 4, 5, 6, 7, 8, 9, 10, 11]
/-- What device `c` owes at launch: all copies, and a unit to each neighbour's barrier. -/
def O₀ (c : Dev nD) : CellTallies nD τ sig Unit :=
  dues c allCopies + tallyAt (barCell (nxt c)) () 1 + tallyAt (barCell (prv c)) () 1

def L (g : GSem nD τ sig) : Finset Unit := if g.1.2 = .tc then {()} else ∅
/-- Send cells and staging at 0, barriers at 1, the first eight receive cells at 2, the forwarded ones' at 3. -/
def lvK : Option CK → ℕ
  | some (.inl _) => 1
  | some (.inr (.inl _)) => 0
  | some (.inr (.inr i)) => if i.val < 8 then 2 else 3
  | none => 0
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

/-- A device owing only cells above level `n` may wait on a cell at most at `n`. -/
theorem mayWait_of (c : Dev nD) (sm : SemLoc sig) (n : ℕ) (O : CellTallies nD τ sig Unit) (hs : lvK (dec sm) ≤ n)
    (hO : ∀ g u, 0 < O g u → g.1.2 = .tc ∧ n < lvK (dec g.2)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem dues_pos {c : Dev nD} {l : List (Fin 12)} {g : GSem nD τ sig} {u : Unit} (h : 0 < dues c l g u) : ∃ i ∈ l, g = recvCell (dst c i) i := by
  induction l with
  | nil => exact absurd h (Nat.lt_irrefl 0)
  | cons i l ih =>
    unfold dues at h
    rw [Pi.add_apply, Finsupp.add_apply] at h
    rcases Nat.add_pos_iff_pos_or_pos.mp h with h | h
    · obtain ⟨j, hj, e⟩ := ih h; exact ⟨j, List.mem_cons_of_mem _ hj, e⟩
    · exact ⟨i, List.mem_cons_self, (Pipeline.tallyAt_pos h).1⟩

/-- Owing the copies of a list above level `n`, a device may wait on a cell at most at `n`. -/
theorem mayWait_dues (c : Dev nD) (sm : SemLoc sig) (n : ℕ) (l : List (Fin 12)) (hs : lvK (dec sm) ≤ n)
    (hl : ∀ i ∈ l, n < lvK (some (.inr (.inr i)))) : (levAts L lv : sProp 𝕄) ⊢ MayWait (c : Thread nD τ) sm () (dues c l) :=
  mayWait_of c sm n _ hs fun g u hg => by
    obtain ⟨i, hi, rfl⟩ := dues_pos hg
    refine ⟨rfl, ?_⟩
    show n < lvK (dec (.dma (recvQ i)))
    rw [dec_recv]; exact hl i hi

/-- Owing everything, a device may wait on the staging's semaphores. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have hq' : lvK (dec (.dma q)) ≤ 0 := by dsimp only [dec]; rw [dif_pos hq]; exact Nat.le_refl 0
  rcases hO with rfl | rfl
  · refine mayWait_of c _ 0 _ hq' fun g u hg => ?_
    unfold O₀ at hg
    rw [Pi.add_apply, Finsupp.add_apply, Pi.add_apply, Finsupp.add_apply] at hg
    rcases Nat.add_pos_iff_pos_or_pos.mp hg with hg | hg
    · rcases Nat.add_pos_iff_pos_or_pos.mp hg with hg | hg
      · obtain ⟨i, hi, rfl⟩ := dues_pos hg
        refine ⟨rfl, ?_⟩
        show 0 < lvK (dec (.dma (recvQ i)))
        rw [dec_recv]; dsimp only [lvK]; split <;> omega
      · rw [(Pipeline.tallyAt_pos hg).1]; exact ⟨rfl, Nat.one_pos⟩
    · rw [(Pipeline.tallyAt_pos hg).1]; exact ⟨rfl, Nat.one_pos⟩
  · rw [MayWait_zero]; iintro -; iempintro

end Cert.RingAttn

end
-- ==== Proof.Steps.lean ====
/-
The steps of the exchange as rules over one device's holdings: the two signals and the wait of the entry
barrier, a copy, the wait for a copy's arrival, the wait for a copy's source to be read.
-/
module

public import proofs.«01_k».proof.Proof.Protocol

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## What is known of the cells -/

/-- Every cell's invariant under the names `K`, every cell's round reached, and the levels. -/
def records (K : Dev nD × CK → ℕ) : sProp 𝕄 :=
  iprop((bigSep Finset.univ fun ck : Dev nD × CK => cellInv ER (sched m) (K ck) (kcell ck))
    ∗ (bigSep Finset.univ fun ck : Dev nD × CK => reached ER (kcell ck) 0) ∗ levAts L lv)

instance records_persistent (K : Dev nD × CK → ℕ) : BI.Persistent (records (F := F) m K) := by unfold records; infer_instance

theorem inv_at (K : Dev nD × CK → ℕ) (ck : Dev nD × CK) : records m K ⊢ cellInv ER (sched m) (K ck) (kcell ck) := by
  unfold records
  iintro ⟨H, -, -⟩
  iapply (show (bigSep Finset.univ fun ck : Dev nD × CK => (cellInv ER (sched m) (K ck) (kcell ck) : sProp 𝕄)) ⊢ cellInv ER (sched m) (K ck) (kcell ck) from
    bigSep_elim (Finset.mem_univ ck))
  iexact H
theorem reached_at (K : Dev nD × CK → ℕ) (ck : Dev nD × CK) : records m K ⊢ reached ER (kcell ck) 0 := by
  unfold records
  iintro ⟨-, H, -⟩
  iapply (show (bigSep Finset.univ fun ck : Dev nD × CK => (reached ER (kcell ck) 0 : sProp 𝕄)) ⊢ reached ER (kcell ck) 0 from
    bigSep_elim (Finset.mem_univ ck))
  iexact H
theorem lev_at (K : Dev nD × CK → ℕ) : records m K ⊢ levAts L lv := by
  unfold records
  iintro ⟨-, -, H⟩
  iexact H

/-! ## A device's holdings -/

/-- The device owes `O`, whatever it has waited for. -/
def Owing (c : Dev nD) (O : CellTallies nD τ sig Unit) : sProp 𝕄 := iprop(∃ W, owes (c : Thread nD τ) O W)
/-- The right to make copy `i`: its two duties, its send cell untouched, and the room it fills. -/
def mayCopy (c : Dev nD) (i : Fin 12) : sProp 𝕄 :=
  iprop(dutyTok ER (sendCell c i) 0 false ∗ dutyTok ER (recvCell (dst c i) i) 0 false ∗ atPos ER (sendCell c i) 0 ∅ 0)
/-- Copy `i` is under way: its send cell may be waited for. -/
def sent (c : Dev nD) (i : Fin 12) : sProp 𝕄 := iprop(cred (tallyAt (sendCell c i) () N) ∗ atPos ER (sendCell c i) 0 ∅ 0)
/-- Copy `i` into the device may be waited for. -/
def awaits (c : Dev nD) (i : Fin 12) : sProp 𝕄 := iprop(cred (tallyAt (recvCell c i) () N) ∗ atPos ER (recvCell c i) 0 ∅ 0)
/-- The send cell, the receive cell of copy `i` are back at zero. -/
def sentDone (c : Dev nD) (i : Fin 12) : sProp 𝕄 := semVal (sendCell c i) 0
def recvDone (c : Dev nD) (i : Fin 12) : sProp 𝕄 := semVal (recvCell c i) 0

/-! ## The entry barrier -/

/-- The signal to the left neighbour hands over the device's room for copies going right. -/
theorem wp_signal_left (K : Dev nD × CK → ℕ) (c n : Dev nD) (hn : n = prv c) {α : Type} {Q : α → sProp 𝕄}
    {k : PUnit → Prog (TpuEff nD τ sig (Elt F) Λ₀ .tc) α} :
    iprop(records m K ∗ Owing c (O₀ c) ∗ dutyTok ER (barCell (prv c)) 0 true ∗ roomR c)
      ⊢ iprop((Owing c (dues c allCopies + tallyAt (barCell (nxt c)) () 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold Owing O₀
  iintro ⟨#HR, ⟨%W, HO⟩, Ht, Hroom⟩ Hk
  iapply (Rounds.wp_signal 𝒱₀ ER (sched m) (c : Thread nD τ) none (dst := (prv c : Thread nD τ)) (κ := K (prv c, .inl ()))
      (d := true) (by rw [duties_bar]; exact Finset.mem_univ _) (amount_bar m (prv c) true) () (dues c allCopies + tallyAt (barCell (nxt c)) () 1) rfl)
    $$ [HO Ht Hroom]
  · isplitr; · iapply (inv_at m K (prv c, .inl ())); iexact HR
    isplitl [HO]; · iexact HO
    isplitl [Ht]; · iexact Ht
    isplitl [Hroom]; · rw [payload_bar, cond_true, nxt_prv]; iexact Hroom
    iapply (reached_at m K (prv c, .inl ())); iexact HR
  iintro HO
  iapply Hk
  iexists W; iexact HO

/-- The signal to the right neighbour hands over the device's room for copies going left. -/
theorem wp_signal_right (K : Dev nD × CK → ℕ) (c n : Dev nD) (hn : n = nxt c) {α : Type} {Q : α → sProp 𝕄}
    {k : PUnit → Prog (TpuEff nD τ sig (Elt F) Λ₀ .tc) α} :
    iprop(records m K ∗ Owing c (dues c allCopies + tallyAt (barCell (nxt c)) () 1) ∗ dutyTok ER (barCell (nxt c)) 0 false ∗ roomL c)
      ⊢ iprop((Owing c (dues c allCopies) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold Owing
  iintro ⟨#HR, ⟨%W, HO⟩, Ht, Hroom⟩ Hk
  iapply (Rounds.wp_signal 𝒱₀ ER (sched m) (c : Thread nD τ) none (dst := (nxt c : Thread nD τ)) (κ := K (nxt c, .inl ()))
      (d := false) (by rw [duties_bar]; exact Finset.mem_univ _) (amount_bar m (nxt c) false) () (dues c allCopies) rfl)
    $$ [HO Ht Hroom]
  · isplitr; · iapply (inv_at m K (nxt c, .inl ())); iexact HR
    isplitl [HO]; · iexact HO
    isplitl [Ht]; · iexact Ht
    isplitl [Hroom]; · rw [payload_bar, cond_false, prv_nxt]; iexact Hroom
    iapply (reached_at m K (nxt c, .inl ())); iexact HR
  iintro HO
  iapply Hk
  iexists W; iexact HO

/-- The wait for both neighbours' signals: their room comes with it. -/
theorem wp_barrier (K : Dev nD × CK → ℕ) (c : Dev nD) {α : Type} {Q : α → sProp 𝕄}
    {k : PUnit → Prog (TpuEff nD τ sig (Elt F) Λ₀ .tc) α} :
    iprop(records m K ∗ Owing c (dues c allCopies) ∗ cred (tallyAt (barCell c) () 2) ∗ atPos ER (barCell c) 0 ∅ 0)
      ⊢ iprop((Owing c (dues c allCopies) ∗ semVal (barCell c) 0 ∗ roomL (prv c) ∗ roomR (nxt c)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold Owing
  iintro ⟨#HR, ⟨%W, HO⟩, Hc, Hat⟩ Hk
  ihave #HI := (inv_at m K (c, .inl ())) $$ HR
  iapply (Rounds.wp_wait_rest_token 𝒱₀ ER (sched m) (c : Thread nD τ) none (κ := K (c, .inl ()))
      (wpE_semWait_eq 𝒱₀ (c : Thread nD τ) none Set.univ) (Set.mem_univ _) () (O := dues c allCopies) (W := W) (R := 0) (m := 0) (T := ∅)
      (by rw [expect_bar])) $$ [Hc HO Hat]
  · isplitr; · iexact HI
    isplitl [Hc]; · iexact Hc
    isplitl [HO]; · iexact HO
    isplitr
    · iapply (mayWait_dues c (.reg barS) 1 allCopies (Nat.le_refl 1) (by decide)); iapply (lev_at m K); iexact HR
    iexact Hat
  iintro ⟨HO, Hat, -, Hpay⟩
  ihave Hp := (Entails.of_eq (rest_bar m c)) $$ Hpay
  icases Hp with ⟨HL, HRo⟩
  imod (Rounds.cell_close ER (sched m) (Set.mem_univ (K (c, .inl ()))) (fun h => h) (R := 0 + 1) (duties_later m (barCell c))) $$ [Hat] with Hz
  · isplitr; · iexact HI
    iexact Hat
  iapply Hk
  isplitl [HO]; · iexists _; iexact HO
  isplitl [Hz]; · iexact Hz
  isplitl [HL] <;> iassumption

/-! ## Waiting for a copy -/

/-- The wait for copy `i` into the device: the elements it has filled. -/
theorem wp_await (K : Dev nD × CK → ℕ) (c : Dev nD) (i : Fin 12) (l : List (Fin 12)) (n : ℕ) (hi : lvK (some (.inr (.inr i))) ≤ n)
    (hl : ∀ j ∈ l, n < lvK (some (.inr (.inr j))))
    {q : DmaSem sig} (hq : q = recvQ i) {s s' : Shape} {e e' : EltTy} {src : Memref sig .tc .vmem s' e'} {dM : Memref sig .tc .vmem s e}
    (hN : dM.view.dmaCredit = N) {hsrc : src.view.WordExact} {hdst : dM.view.WordExact}
    {α : Type} {Q : α → sProp 𝕄} {k : PUnit → Prog (TpuEff nD τ sig (Elt F) Λ₀ .tc) α} :
    iprop(records m K ∗ Owing c (dues c l) ∗ awaits c i)
      ⊢ iprop((Owing c (dues c l) ∗ recvDone c i ∗ recvPay m c i
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dM hsrc hdst) k) Q) := by
  subst hq
  unfold Owing awaits recvDone
  rw [← hN]
  iintro ⟨#HR, ⟨%W, HO⟩, Hc, Hat⟩ Hk
  ihave #HI := (inv_at m K (c, .inr (.inr i))) $$ HR
  iapply (Rounds.wp_wait_rest_token 𝒱₀ ER (sched m) (c : Thread nD τ) none (κ := K (c, .inr (.inr i)))
      (wpE_waitDma2_eq 𝒱₀ (c : Thread nD τ) none Set.univ) (Set.mem_univ _) () (O := dues c l) (W := W) (R := 0) (m := 0) (T := ∅)
      (by rw [Nat.zero_add, hN, expect_recv])) $$ [Hc HO Hat]
  · isplitr; · iexact HI
    isplitl [Hc]; · iexact Hc
    isplitl [HO]; · iexact HO
    isplitr
    · iapply (mayWait_dues c (.dma (recvQ i)) n l (by rw [dec_recv]; exact hi) hl); iapply (lev_at m K); iexact HR
    iexact Hat
  iintro ⟨HO, Hat, -, Hpay⟩
  ihave Hp := (Entails.of_eq (rest_recv m c i)) $$ Hpay
  imod (Rounds.cell_close ER (sched m) (Set.mem_univ (K (c, .inr (.inr i)))) (fun h => h) (R := 0 + 1) (duties_later m (recvCell c i))) $$ [Hat] with Hz
  · isplitr; · iexact HI
    iexact Hat
  iapply Hk
  isplitl [HO]; · iexists _; iexact HO
  isplitl [Hz] <;> iassumption

/-- The wait for copy `i` to have read its source: the share lent to it. -/
theorem wp_awaitSent (K : Dev nD × CK → ℕ) (c : Dev nD) (i : Fin 12) (l : List (Fin 12))
    {q : DmaSem sig} (hq : q = sendQ i) {s s' : Shape} {e e' : EltTy} {src : Memref sig .tc .vmem s' e'} {dM : Memref sig .tc .vmem s e}
    (hN : dM.view.dmaCredit = N) {hsrc : src.view.WordExact} {hdst : dM.view.WordExact}
    {α : Type} {Q : α → sProp 𝕄} {k : PUnit → Prog (TpuEff nD τ sig (Elt F) Λ₀ .tc) α} :
    iprop(records m K ∗ Owing c (dues c l) ∗ sent c i)
      ⊢ iprop((Owing c (dues c l) ∗ sentDone c i ∗ sendPay m c i
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dM hsrc hdst) k) Q) := by
  subst hq
  unfold Owing sent sentDone
  rw [← hN]
  iintro ⟨#HR, ⟨%W, HO⟩, Hc, Hat⟩ Hk
  ihave #HI := (inv_at m K (c, .inr (.inl i))) $$ HR
  iapply (Rounds.wp_wait_rest_token 𝒱₀ ER (sched m) (c : Thread nD τ) none (κ := K (c, .inr (.inl i)))
      (wpE_waitDma2_eq 𝒱₀ (c : Thread nD τ) none Set.univ) (Set.mem_univ _) () (O := dues c l) (W := W) (R := 0) (m := 0) (T := ∅)
      (by rw [Nat.zero_add, hN, expect_send])) $$ [Hc HO Hat]
  · isplitr; · iexact HI
    isplitl [Hc]; · iexact Hc
    isplitl [HO]; · iexact HO
    isplitr
    · iapply (mayWait_dues c (.dma (sendQ i)) 0 l (by rw [dec_send]; exact Nat.le_refl 0)
        (fun j _ => by dsimp only [lvK]; split <;> omega)); iapply (lev_at m K); iexact HR
    iexact Hat
  iintro ⟨HO, Hat, -, Hpay⟩
  ihave Hp := (Entails.of_eq (rest_send m c i)) $$ Hpay
  imod (Rounds.cell_close ER (sched m) (Set.mem_univ (K (c, .inr (.inl i)))) (fun h => h) (R := 0 + 1) (duties_later m (sendCell c i))) $$ [Hat] with Hz
  · isplitr; · iexact HI
    iexact Hat
  iapply Hk
  isplitl [HO]; · iexists _; iexact HO
  isplitl [Hz] <;> iassumption

/-! ## A copy -/

/-- Copy `i`: from slot `r` of a buffer of device `c`, at a lent share, into slot `r'` of the same buffer of the device it
    goes to. Both hold what the buffer's final contents are there: the places moved agree (`hmove`). -/
theorem wp_copy (K : Dev nD × CK → ℕ) (c n : Dev nD) (i : Fin 12) (l : List (Fin 12)) (hn : n = dst c i)
    {s s' : Shape} {M : Memref sig .tc .vmem s .bf16} {r r' : Rect s} {hr : ∀ a, r.stride a = 1} {hr' : ∀ a, r'.stride a = 1}
    {hs : r.shape.Squeezes s'} {hs' : r'.shape.Squeezes s'} {q : PosShare TreeShare}
    (f : (d : Dev nD) → Buf (Elt F) (M.view.loc (d : Thread nD τ)))
    {sS sR : DmaSem sig} (hS : sS = sendQ i) (hR : sR = recvQ i)
    (hN : ((M.slice r' hr').squeeze s' hs').view.dmaCredit = N)
    (hsend : sendPay m c i = At c M r q (f c)) (hrecv : ∀ d, recvPay m d i = At d M r' fullShare (f d))
    (hroom : ∀ d, (room d i : sProp 𝕄) = iprop(∃ f, At d M r' fullShare f))
    (hmove : ∀ fd : Buf (Elt F) (M.view.loc (dst c i : Thread nD τ)), ∀ j ∈ M.view.setOn r'.set,
      ((M.slice r' hr').squeeze s' hs').view.write (Elt F) fd (((M.slice r hr).squeeze s' hs).view.read (Elt F) (f c)) Finset.univ j = f (dst c i) j)
    {hsc : ((M.slice r' hr').squeeze s' hs' : Memref sig (Dev.tc n : Thread nD τ).2.kind .vmem s' .bf16).view.ref.isScScratch = false}
    {hsrc : ((M.slice r hr).squeeze s' hs).view.WordExact} {hdst : ((M.slice r' hr').squeeze s' hs').view.WordExact}
    {hsem : DmaTarget.Typed .vmem (.dma sR) (.remote (Dev.tc n : Thread nD τ) ((M.slice r' hr').squeeze s' hs') (.dma sS) hsc)}
    {α : Type} {Q : α → sProp 𝕄} {k : PUnit → Prog (TpuEff nD τ sig (Elt F) Λ₀ .tc) α} :
    iprop(records m K ∗ Owing c (dues c (i :: l)) ∗ mayCopy c i ∗ room (dst c i) i ∗ At c M r q (f c))
      ⊢ iprop((Owing c (dues c l) ∗ sent c i -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((M.slice r hr).squeeze s' hs) (.remote (Dev.tc n : Thread nD τ) ((M.slice r' hr').squeeze s' hs') (.dma sS) hsc) (.dma sR) hsrc hdst hsem) k) Q) := by
  subst hn; subst hS; subst hR
  rw [hroom]
  unfold Owing mayCopy sent
  iintro ⟨#HR, ⟨%W, HO⟩, ⟨Hts, Htr, Hat⟩, ⟨%fd, Hroom⟩, Hsrc⟩ Hk
  unfold At
  iapply (Rounds.wp_send_pointsTo 𝒱₀ ER (sched m) (c : Thread nD τ) none (c' := (dst c i : Thread nD τ))
    (src := (M.slice r hr).squeeze s' hs) (dst := (M.slice r' hr').squeeze s' hs') (sS := .dma (sendQ i)) (sem := .dma (recvQ i)) (κ₁ := K (c, .inr (.inl i))) (κ₂ := K (dst c i, .inr (.inr i)))
    (q := q) (fs := f c) (fd := fd) (r₁ := 0) (r₂ := 0) (d₁ := false) (d₂ := false)
    (by rw [duties_send]; exact Finset.mem_singleton_self _) (by rw [duties_recv]; exact Finset.mem_singleton_self _)
    () () N hN (amount_send m c i false) (amount_recv m (dst c i) i false) (dues c l) rfl (W := W)
    (by rw [payload_send, hsend, slot_set]; exact BI.Entails.refl _)
    (by rw [payload_recv, hrecv, slot_set]; unfold At; exact Entails.of_eq (pointsTo_congr (hmove fd)))) $$ [HO Hts Htr Hroom Hsrc]
  · isplitr; · iapply (inv_at m K (c, .inr (.inl i))); iexact HR
    isplitr; · iapply (inv_at m K (dst c i, .inr (.inr i))); iexact HR
    isplitl [Hsrc]; · rw [slot_set]; iexact Hsrc
    isplitl [Hroom]; · rw [slot_set]; iexact Hroom
    isplitl [HO]; · iexact HO
    isplitl [Hts]; · iexact Hts
    isplitr; · iapply (reached_at m K (c, .inr (.inl i))); iexact HR
    isplitl [Htr]; · iexact Htr
    iapply (reached_at m K (dst c i, .inr (.inr i))); iexact HR
  iintro ⟨Hc, HO⟩
  iapply Hk
  isplitl [HO]; · iexists W; iexact HO
  isplitl [Hc] <;> iassumption

/-- What a copy writes at the places it fills is what is wanted there, if the places moved agree. -/
theorem moved {s s' : Shape} (M : Memref sig .tc .vmem s .bf16) {size : Fin s.rank → ℕ} {off off' : Fin s.rank → ℕ}
    (inb : ∀ a, off a + size a ≤ s.size a) (inb' : ∀ a, off' a + size a ≤ s.size a)
    (hs : (⟨s.rank, size⟩ : Shape).Squeezes s') (f g fd : M.view.ty.Contents (Elt F))
    (h : ∀ y : (⟨s.rank, size⟩ : Shape).Idx, f (M.view.emb ((Rect.unit off size inb).emb y)) = g (M.view.emb ((Rect.unit off' size inb').emb y))) :
    ∀ j ∈ M.view.setOn (Rect.unit off' size inb').set,
      ((M.slice (Rect.unit off' size inb') (fun _ => rfl)).squeeze s' hs).view.write (Elt F) fd
        (((M.slice (Rect.unit off size inb) (fun _ => rfl)).squeeze s' hs).view.read (Elt F) f) Finset.univ j = g j := by
  intro j hj
  rw [← slot_set M (Rect.unit off' size inb') (fun _ => rfl) hs] at hj
  obtain ⟨x, -, rfl⟩ := Finset.mem_map.mp hj
  rw [View.write_emb_of_mem _ _ (Finset.mem_univ x), View.read_apply, cast_cast, cast_eq]
  exact h (Shape.reshapeEquiv hs.numel_eq x)

end Cert.RingAttn

end
-- ==== Proof.Buffers.lean ====
/-
Buffers and their parts: a buffer is its four slots; a slot is its shares; what a store leaves in a slot;
and the keys and values turned so that a device's own group of heads comes first.
-/
module

public import proofs.«01_k».proof.Proof.Protocol

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

omit [FloatOps F] in
/-- A buffer is its four slots, when the rectangles of the slots are told apart by a key. -/
theorem four_slots {s : Shape} {e : EltTy} (M : Memref sig .tc .vmem s e) (r : Fin 4 → Rect s) (key : s.Idx → Fin 4)
    (h : ∀ t i, i ∈ (r t).set ↔ key i = t) (c : Dev nD) (f : Buf (Elt F) (M.view.loc (c : Thread nD τ))) :
    (M.view.loc (c : Thread nD τ) ↦[M.view.set]{fullShare} f : sProp 𝕄)
      = iprop(At c M (r 0) fullShare f ∗ At c M (r 1) fullShare f ∗ At c M (r 2) fullShare f ∗ At c M (r 3) fullShare f) := by
  have hU : M.view.set = Finset.univ.biUnion fun t => M.view.setOn (r t).set := by
    ext j
    constructor
    · intro hj
      obtain ⟨x, -, rfl⟩ := Finset.mem_map.mp hj
      exact Finset.mem_biUnion.mpr ⟨key x, Finset.mem_univ _, (View.mem_setOn _).mpr ((h _ x).mpr rfl)⟩
    · intro hj
      obtain ⟨t, -, ht⟩ := Finset.mem_biUnion.mp hj
      exact M.view.setOn_subset_set _ ht
  have hD : ∀ t ∈ (Finset.univ : Finset (Fin 4)), ∀ t' ∈ (Finset.univ : Finset (Fin 4)), t ≠ t' → Disjoint (M.view.setOn (r t).set) (M.view.setOn (r t').set) := by
    intro t _ t' _ hne
    rw [Finset.disjoint_left]
    intro j hj hj'
    obtain ⟨x, hx, rfl⟩ := Finset.mem_map.mp hj
    exact hne (((h t x).mp hx).symm.trans ((h t' x).mp ((View.mem_setOn _).mp hj')))
  rw [hU, pointsTo_biUnion _ _ hD, bigSep_univ_eq_bigSepL [0, 1, 2, 3] (by decide) (by decide), bigSepL_cons_cons, bigSepL_cons_cons,
    bigSepL_cons_cons, bigSepL_singleton]
  rfl

/-- The slots of a buffer of `Wq` pieces, of `Wo` pieces. -/
abbrev qR : Fin 4 → Rect S4x512x128 := ![q0, q1, q2, q3]
abbrev oR : Fin 4 → Rect S4x128x512 := ![o0, o1, o2, o3]
theorem mem_qR (t : Fin 4) (i : S4x512x128.Idx) : i ∈ (qR t).set ↔ (i 0 : Fin 4) = t := by
  have h : i ∈ (qR t).set ↔ (i 0 : Fin 4).val = t.val := match t with
    | 0 => mem_q 0 inb_S4x512x128_S1x512x128_0_0_0 i
    | 1 => mem_q 1 inb_S4x512x128_S1x512x128_1_0_0 i
    | 2 => mem_q 2 inb_S4x512x128_S1x512x128_2_0_0 i
    | 3 => mem_q 3 inb_S4x512x128_S1x512x128_3_0_0 i
  exact h.trans ⟨fun e => Fin.ext e, fun e => congrArg Fin.val e⟩
theorem mem_oR (t : Fin 4) (i : S4x128x512.Idx) : i ∈ (oR t).set ↔ (i 0 : Fin 4) = t := by
  have h : i ∈ (oR t).set ↔ (i 0 : Fin 4).val = t.val := match t with
    | 0 => mem_o 0 inb_S4x128x512_S1x128x512_0_0_0 i
    | 1 => mem_o 1 inb_S4x128x512_S1x128x512_1_0_0 i
    | 2 => mem_o 2 inb_S4x128x512_S1x128x512_2_0_0 i
    | 3 => mem_o 3 inb_S4x128x512_S1x128x512_3_0_0 i
  exact h.trans ⟨fun e => Fin.ext e, fun e => congrArg Fin.val e⟩

omit [FloatOps F] in
/-- A buffer of `Wq` pieces is its four slots; -/
theorem q_slots (M : Memref sig .tc .vmem S4x512x128 .bf16) (c : Dev nD) (f : Buf (Elt F) (M.view.loc (c : Thread nD τ))) :
    (M.view.loc (c : Thread nD τ) ↦[M.view.set]{fullShare} f : sProp 𝕄)
      = iprop(At c M q0 fullShare f ∗ At c M q1 fullShare f ∗ At c M q2 fullShare f ∗ At c M q3 fullShare f) :=
  four_slots M qR (fun i => i 0) mem_qR c f
omit [FloatOps F] in
/-- and so is one of `Wo` pieces. -/
theorem o_slots (M : Memref sig .tc .vmem S4x128x512 .bf16) (c : Dev nD) (f : Buf (Elt F) (M.view.loc (c : Thread nD τ))) :
    (M.view.loc (c : Thread nD τ) ↦[M.view.set]{fullShare} f : sProp 𝕄)
      = iprop(At c M o0 fullShare f ∗ At c M o1 fullShare f ∗ At c M o2 fullShare f ∗ At c M o3 fullShare f) :=
  four_slots M oR (fun i => i 0) mem_oR c f

omit [FloatOps F] in
/-- A slot held in full is a part to lend and a part kept; -/
theorem At_lend {s : Shape} {e : EltTy} (c : Dev nD) (M : Memref sig .tc .vmem s e) (r : Rect s) (f : Buf (Elt F) (M.view.loc (c : Thread nD τ))) :
    (At c M r fullShare f : sProp 𝕄) ⊣⊢ iprop(At c M r lent f ∗ At c M r kept f) :=
  pointsTo_share (PosShare.mem_left_op_right fullShare)
omit [FloatOps F] in
/-- the part to lend may be lent twice. -/
theorem At_lend₂ {s : Shape} {e : EltTy} (c : Dev nD) (M : Memref sig .tc .vmem s e) (r : Rect s) (f : Buf (Elt F) (M.view.loc (c : Thread nD τ))) :
    (At c M r lent f : sProp 𝕄) ⊣⊢ iprop(At c M r lent1 f ∗ At c M r lent2 f) :=
  pointsTo_share (PosShare.mem_left_op_right lent)

/-! ## Stores -/

omit [FloatOps F] in
/-- What a store leaves in its rectangle is what is wanted there, if the stored vector is. -/
theorem stored (b : Ref sig .tc) (r : Rect b.ty.shape) (f g : b.ty.Contents (Elt F)) (w : r.shape.Idx → Elt F b.ty.elt) (h : ∀ y, w y = g (r.emb y)) :
    ∀ i ∈ r.set, ((Memref.whole b).access r : View sig .tc _ _ _).write (Elt F) f w Finset.univ i = g i := by
  intro i hi
  rw [← Rect.map_emb_univ] at hi
  obtain ⟨y, -, rfl⟩ := Finset.mem_map.mp hi
  exact (View.write_emb_of_mem (v := ((Memref.whole b).access r : View sig .tc _ _ _)) f w (Finset.mem_univ y)).trans (h y)

omit [FloatOps F] in
/-- Two stores that cover the buffer leave what is wanted, if the stored vectors are. -/
theorem stored_two (b : Ref sig .tc) (r r' : Rect b.ty.shape) (f g : b.ty.Contents (Elt F)) (w : r.shape.Idx → Elt F b.ty.elt) (w' : r'.shape.Idx → Elt F b.ty.elt)
    (h : ∀ y, w y = g (r.emb y)) (h' : ∀ y, w' y = g (r'.emb y)) (hc : ∀ i, i ∉ r'.set → i ∈ r.set) :
    ((Memref.whole b).access r' : View sig .tc _ _ _).write (Elt F) (((Memref.whole b).access r : View sig .tc _ _ _).write (Elt F) f w Finset.univ) w' Finset.univ = g := by
  funext i
  by_cases hi : i ∈ r'.set
  · exact stored b r' _ g w' h' i hi
  · refine (View.write_of_not_mem (v := ((Memref.whole b).access r' : View sig .tc _ _ _)) _ w' Finset.univ fun hm => hi ?_).trans (stored b r f g w h i (hc i hi))
    obtain ⟨y, -, e⟩ := Finset.mem_map.mp hm
    rw [← Rect.map_emb_univ]
    exact Finset.mem_map.mpr ⟨y, Finset.mem_univ _, e⟩

/-! ## Reads -/

/-- A load of slot `s` of a full buffer reads the piece of the device the slot is for. -/
theorem read_fqA (c : Dev nD) (s : Fin 4) (hs : ∀ a, (![s.val, 0, 0] : Fin 3 → Nat) a + S1x512x128.size a ≤ S4x512x128.size a) :
    wqA.view.readAt (Elt F) (Rect.unit (s := S4x512x128) ![s.val, 0, 0] S1x512x128.size hs).toLoadRect (fqA m c) = wqAp m (srcDev c s) :=
  funext fun y => fqA_emb m c s hs y
theorem read_fqB (c : Dev nD) (s : Fin 4) (hs : ∀ a, (![s.val, 0, 0] : Fin 3 → Nat) a + S1x512x128.size a ≤ S4x512x128.size a) :
    wqB.view.readAt (Elt F) (Rect.unit (s := S4x512x128) ![s.val, 0, 0] S1x512x128.size hs).toLoadRect (fqB m c) = wqBp m (srcDev c s) :=
  funext fun y => fqB_emb m c s hs y
theorem read_foA (c : Dev nD) (s : Fin 4) (hs : ∀ a, (![s.val, 0, 0] : Fin 3 → Nat) a + S1x128x512.size a ≤ S4x128x512.size a) :
    woA.view.readAt (Elt F) (Rect.unit (s := S4x128x512) ![s.val, 0, 0] S1x128x512.size hs).toLoadRect (foA m c) = woAp m (srcDev c s) :=
  funext fun y => foA_emb m c s hs y
theorem read_foB (c : Dev nD) (s : Fin 4) (hs : ∀ a, (![s.val, 0, 0] : Fin 3 → Nat) a + S1x128x512.size a ≤ S4x128x512.size a) :
    woB.view.readAt (Elt F) (Rect.unit (s := S4x128x512) ![s.val, 0, 0] S1x128x512.size hs).toLoadRect (foB m c) = woBp m (srcDev c s) :=
  funext fun y => foB_emb m c s hs y

/-! ## The keys and values, turned -/

set_option backward.proofsInPublic true in
/-- Where the keys of device `c` turned by four heads per device come from. -/
def turn (c : Dev nD) (i : S2x128x16x64.Idx) : S2x128x16x64.Idx :=
  fun | 0 => (i 0 : Fin 2) | 1 => (i 1 : Fin 128) | 2 => (⟨((i 2).val + 4 * c.val) % 16, Nat.mod_lt _ (by decide)⟩ : Fin 16) | 3 => (i 3 : Fin 64)
/-- The keys and the values of device `c`, turned. -/
def kRot (c : Dev nD) : (cc0_scratch4 : Ref sig .tc).ty.Contents (Elt F) := fun i => kIn m c (turn c i)
def vRot (c : Dev nD) : (cc0_scratch5 : Ref sig .tc).ty.Contents (Elt F) := fun i => vIn m c (turn c i)

/-- Head `h` read from head `h + 4 c` on, round sixteen. -/
theorem turn_emb (c : Dev nD) (o o' n : ℕ) (hi : ∀ a, (![0, 0, o, 0] : Fin 4 → Nat) a + (![2, 128, n, 64] : Fin 4 → Nat) a ≤ S2x128x16x64.size a)
    (hi' : ∀ a, (![0, 0, o', 0] : Fin 4 → Nat) a + (![2, 128, n, 64] : Fin 4 → Nat) a ≤ S2x128x16x64.size a) (ho : (o + 4 * c.val) % 16 = o' % 16)
    (y : (⟨4, ![2, 128, n, 64]⟩ : Shape).Idx) :
    (Rect.unit (s := S2x128x16x64) ![0, 0, o', 0] ![2, 128, n, 64] hi').emb y = turn c ((Rect.unit (s := S2x128x16x64) ![0, 0, o, 0] ![2, 128, n, 64] hi).emb y) := by
  have h2 : (y 2).val < n := (y 2).isLt
  have h3 : o' + n ≤ 16 := hi' 2
  funext a
  apply Fin.ext
  fin_cases a
  · rfl
  · rfl
  · show o' + 1 * (y 2).val = ((o + 1 * (y 2).val) + 4 * c.val) % 16
    omega
  · rfl

end Cert.RingAttn

end
-- ==== Proof.Values.lean ====
/-
The values the program computes on a device, under the names the program gives them, each from what is
loaded and from values before it.
-/
module

public import proofs.«01_k».proof.Proof.Buffers

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the loads read -/

/-- One head of one batch entry of the keys, of the values. -/
theorem hd_inb (b p : ℕ) (h : b < 2 ∧ p < 16) : ∀ a, (![b, 0, p, 0] : Fin 4 → ℕ) a + S1x128x1x64.size a ≤ S2x128x16x64.size a := by
  intro a; fin_cases a
  · show b + 1 ≤ 2; omega
  · show 0 + 128 ≤ 128; omega
  · show p + 1 ≤ 16; omega
  · show 0 + 64 ≤ 64; omega
abbrev hd (b p : ℕ) (h : b < 2 ∧ p < 16) : Rect S2x128x16x64 := Rect.unit (s := S2x128x16x64) ![b, 0, p, 0] S1x128x1x64.size (hd_inb b p h)
/-- Head `p` of batch entry `b` of the turned keys, of the turned values. -/
def rdK (c : Dev nD) (b p : ℕ) : Vec F S1x128x1x64 .f32 :=
  if h : b < 2 ∧ p < 16 then kM.view.readAt (Elt F) (hd b p h).toLoadRect (kRot m c) else fun _ => kRot m c fun | 0 => (0 : Fin 2) | 1 => (0 : Fin 128) | 2 => (0 : Fin 16) | 3 => (0 : Fin 64)
def rdV (c : Dev nD) (b p : ℕ) : Vec F S1x128x1x64 .f32 :=
  if h : b < 2 ∧ p < 16 then vM.view.readAt (Elt F) (hd b p h).toLoadRect (vRot m c) else fun _ => vRot m c fun | 0 => (0 : Fin 2) | 1 => (0 : Fin 128) | 2 => (0 : Fin 16) | 3 => (0 : Fin 64)
/-- The pieces in slot `s`. -/
def rdQA (c : Dev nD) (s : ℕ) : Vec F S1x512x128 .bf16 := wqAp m (srcDev c (Fin.ofNat 4 s))
def rdQB (c : Dev nD) (s : ℕ) : Vec F S1x512x128 .bf16 := wqBp m (srcDev c (Fin.ofNat 4 s))
def rdOA (c : Dev nD) (s : ℕ) : Vec F S1x128x512 .bf16 := woAp m (srcDev c (Fin.ofNat 4 s))
def rdOB (c : Dev nD) (s : ℕ) : Vec F S1x128x512 .bf16 := woBp m (srcDev c (Fin.ofNat 4 s))
/-- The device's rows of `x`. -/
def rdX (c : Dev nD) : Vec F S2x128x512 .f32 := xIn m c

/-! ## What the program computes, under its own names -/

def v2 (c : Dev nD) : BitVec 32 := Scalar.remsi (Scalar.divsi (Dev.word c) 1#32) 4#32
def v5 (c : Dev nD) : BitVec 32 := Scalar.remsi (Scalar.subi (Scalar.addi (v2 c) 4#32) 1#32) 4#32
def v7 (c : Dev nD) : BitVec 32 := Scalar.remsi (Scalar.addi (v2 c) 1#32) 4#32
def v18 (c : Dev nD) : FVec F S256x512 .bf16 := k0_pay2 (woIn m c)
def v27 (c : Dev nD) : FVec F S128x512 .bf16 := k0_pay5 (woIn m c)
def v128 : IVec S128x128 32 := iota .tc S128x128 32 [1] iota_S128x128_d1_w32
def v129 (c : Dev nD) : BitVec 32 := Scalar.muli 2#32 (v2 c)
def v193 (c : Dev nD) : FVec F S256x512 .bf16 := k0_pay25 (rdX m c)
def v194 (c : Dev nD) : IVec S512x128 1 := k0_pay26 v128 (v129 c) k0_pay22 k0_pay23 k0_pay24
def v196 (c : Dev nD) : FVec F S512x128 .bf16 := k0_pay27 (rdQA m c 0)
def v198 (c : Dev nD) : FVec F S128x512 .bf16 := k0_pay28 (rdOA m c 0)
def v228 (c : Dev nD) : FVec F S512x128 .f32 := k0_pay29 (v193 m c) (v194 c) (v196 m c) (rdK m c 0 0) (rdK m c 0 1) (rdK m c 1 0) (rdK m c 1 1)
def v229 (c : Dev nD) : FVec F S512 .f32 := k0_pay30 (v193 m c) (v194 c) (v196 m c) (rdK m c 0 0) (rdK m c 0 1) (rdK m c 1 0) (rdK m c 1 1)
def v251 (c : Dev nD) : FVec F S128x512 .f32 := k0_pay32 (v198 m c) (v228 m c) (v229 m c) (rdV m c 0 0) (rdV m c 0 1)
def v264 (c : Dev nD) : FVec F S128x512 .f32 := k0_pay33 (v198 m c) (v228 m c) (v229 m c) (rdV m c 1 0) (rdV m c 1 1)
def v268 (c : Dev nD) : FVec F S128x512 .bf16 := k0_pay34 (rdOB m c 0)
def v296 (c : Dev nD) : FVec F S512x128 .f32 := k0_pay35 (v193 m c) (rdQB m c 0) (rdK m c 0 2) (rdK m c 0 3) (rdK m c 1 2) (rdK m c 1 3)
def v297 : FVec F S512x128 .f32 := k0_pay36 (F := F)
def v321 (c : Dev nD) : FVec F S128x512 .f32 := k0_pay38 (v194 c) (v268 m c) (v296 m c) (v297 (F := F)) (rdV m c 0 2) (rdV m c 0 3)
def v333 (c : Dev nD) : FVec F S128x128 .bf16 := k0_pay39 (v194 c) (v296 m c) (v297 (F := F)) (rdV m c 1 2) (rdV m c 1 3)
def v335 (c : Dev nD) : FVec F S128x512 .f32 := k0_pay40 (v251 m c) (v321 m c)
def v336 (c : Dev nD) : FVec F S128x512 .f32 := k0_pay41 (v264 m c) (v268 m c) (v333 m c) (constant S128x512 .f32 0x00000000#32)
def v412 (c : Dev nD) : FVec F S128x512 .bf16 := k0_pay42 (rdOA m c 1)
def v413 (c : Dev nD) : FVec F S256x128 .f32 := k0_pay43 (v193 m c) (rdQA m c 1)
def v415 (c : Dev nD) : FVec F S128x64 .bf16 := k0_pay44 (v193 m c) (rdQA m c 1)
def v452 (c : Dev nD) : FVec F S512x128 .bf16 := k0_pay45 (v194 c) (v413 m c) (v415 m c) (rdK m c 0 12) (rdK m c 0 13) (rdK m c 1 12) (rdK m c 1 13)
def v453 (c : Dev nD) : FVec F S128x128 .bf16 := k0_pay46 (v194 c) (v413 m c) (v415 m c) (rdK m c 0 12) (rdK m c 0 13) (rdK m c 1 12) (rdK m c 1 13)
def v479 (c : Dev nD) : FVec F S128x512 .f32 := k0_pay47 (v335 m c) (v412 m c) (v452 m c) (v453 m c) (rdV m c 0 12) (rdV m c 0 13)
def v480 (c : Dev nD) : FVec F S128x512 .f32 := k0_pay48 (v336 m c) (v412 m c) (v452 m c) (rdV m c 1 12) (rdV m c 1 13)
def v484 (c : Dev nD) : FVec F S128x512 .bf16 := k0_pay49 (rdOB m c 2)
def v485 (c : Dev nD) : FVec F S256x128 .f32 := k0_pay50 (v193 m c) (rdQB m c 2)
def v519 (c : Dev nD) : FVec F S512x128 .f32 := k0_pay51 (v194 c) (v485 m c) (rdK m c 0 6) (rdK m c 0 7) (rdK m c 1 6) (rdK m c 1 7)
def v521 (c : Dev nD) : FVec F S512x1 .f32 := k0_pay52 (v194 c) (v485 m c) (rdK m c 0 6) (rdK m c 0 7) (rdK m c 1 6) (rdK m c 1 7)
def v551 (c : Dev nD) : FVec F S128x512 .f32 := k0_pay54 (v479 m c) (v484 m c) (v519 m c) (v521 m c) (rdV m c 0 6) (rdV m c 0 7)
def v552 (c : Dev nD) : FVec F S128x512 .f32 := k0_pay55 (v480 m c) (v484 m c) (v519 m c) (v521 m c) (rdV m c 1 6) (rdV m c 1 7)
def v553 (c : Dev nD) : BitVec 32 := Scalar.muli (v7 c) 1#32
def v572 (c : Dev nD) : FVec F S128x512 .bf16 := k0_pay56 (rdOB m c 1)
def v573 (c : Dev nD) : FVec F S256x128 .f32 := k0_pay57 (v193 m c) (rdQB m c 1)
def v579 (c : Dev nD) : FVec F S128x128 .f32 := k0_pay58 (v193 m c) (rdQB m c 1) (rdK m c 0 14)
def v581 (c : Dev nD) : FVec F S128x64 .bf16 := k0_pay59 (v193 m c) (rdQB m c 1)
def v612 (c : Dev nD) : FVec F S512x128 .bf16 := k0_pay60 (v194 c) (v573 m c) (v579 m c) (v581 m c) (rdK m c 0 15) (rdK m c 1 14) (rdK m c 1 15)
def v617 (c : Dev nD) : FVec F S128x64 .f32 := k0_pay61 (v194 c) (v573 m c) (v579 m c) (v581 m c) (rdK m c 0 15) (rdK m c 1 14) (rdK m c 1 15) (rdV m c 0 14)
def v618 (c : Dev nD) : FVec F S128x128 .bf16 := k0_pay62 (v194 c) (v573 m c) (v579 m c) (v581 m c) (rdK m c 0 15) (rdK m c 1 14) (rdK m c 1 15)
def v639 (c : Dev nD) : FVec F S128x512 .f32 := k0_pay63 (v551 m c) (v572 m c) (v617 m c) (v618 m c) (rdV m c 0 15)
def v640 (c : Dev nD) : FVec F S128x512 .f32 := k0_pay64 (v552 m c) (v572 m c) (v612 m c) (rdV m c 1 14) (rdV m c 1 15)
def v660 (c : Dev nD) : FVec F S128x512 .bf16 := k0_pay65 (rdOA m c 2)
def v667 (c : Dev nD) : FVec F S128x128 .f32 := k0_pay67 (v193 m c) (rdQA m c 2) (rdK m c 0 4)
def v673 (c : Dev nD) : FVec F S128x128 .f32 := k0_pay68 (v193 m c) (rdQA m c 2) (rdK m c 0 5)
def v679 (c : Dev nD) : FVec F S128x128 .f32 := k0_pay69 (v193 m c) (rdQA m c 2) (rdK m c 1 4)
def v680 (c : Dev nD) : FVec F S128x64 .f32 := k0_pay70 (v193 m c) (rdQA m c 2)
def v700 (c : Dev nD) : FVec F S512x128 .bf16 := k0_pay71 (v194 c) (v667 m c) (v673 m c) (v679 m c) (v680 m c) (rdK m c 1 5)
def v713 (c : Dev nD) : FVec F S128x512 .f32 := k0_pay72 (v194 c) (v660 m c) (v667 m c) (v673 m c) (v679 m c) (v680 m c) (rdK m c 1 5) (rdV m c 0 4) (rdV m c 0 5)
def v714 (c : Dev nD) : FVec F S128x128 .bf16 := k0_pay73 (v194 c) (v667 m c) (v673 m c) (v679 m c) (v680 m c) (rdK m c 1 5)
def v716 (c : Dev nD) : FVec F S128x64 .f32 := k0_pay74 (rdV m c 1 4)
def v727 (c : Dev nD) : FVec F S128x512 .f32 := k0_pay75 (v639 m c) (v713 m c)
def v728 (c : Dev nD) : FVec F S128x512 .f32 := k0_pay76 (v640 m c) (v660 m c) (v700 m c) (v714 m c) (v716 m c) (rdV m c 1 5)
def v748 (c : Dev nD) : FVec F S128x512 .bf16 := k0_pay77 (rdOA m c 3)
def v778 (c : Dev nD) : FVec F S512x128 .f32 := k0_pay78 (v193 m c) (v194 c) (rdQA m c 3) (rdK m c 0 8) (rdK m c 0 9) (rdK m c 1 8) (rdK m c 1 9)
def v801 (c : Dev nD) : FVec F S128x512 .f32 := k0_pay80 (v748 m c) (v778 m c) (rdV m c 0 8) (rdV m c 0 9)
def v814 (c : Dev nD) : FVec F S128x512 .f32 := k0_pay81 (v748 m c) (v778 m c) (rdV m c 1 8) (rdV m c 1 9)
def v815 (c : Dev nD) : FVec F S128x512 .f32 := k0_pay82 (v727 m c) (v801 m c)
def v816 (c : Dev nD) : FVec F S128x512 .f32 := k0_pay83 (v728 m c) (v814 m c)
def v836 (c : Dev nD) : FVec F S128x512 .bf16 := k0_pay84 (rdOB m c 3)
def v837 (c : Dev nD) : FVec F S256x128 .f32 := k0_pay85 (v193 m c) (rdQB m c 3)
def v839 (c : Dev nD) : FVec F S128x64 .bf16 := k0_pay86 (v193 m c) (rdQB m c 3)
def v841 (c : Dev nD) : FVec F S128x64 .f32 := k0_pay87 (rdK m c 0 10)
def v876 (c : Dev nD) : FVec F S512x128 .bf16 := k0_pay88 (v194 c) (v837 m c) (v839 m c) (v841 m c) (rdK m c 0 11) (rdK m c 1 10) (rdK m c 1 11)
def v877 (c : Dev nD) : FVec F S128x128 .bf16 := k0_pay89 (v194 c) (v837 m c) (v839 m c) (v841 m c) (rdK m c 0 11) (rdK m c 1 10) (rdK m c 1 11)

/-- What the kernel leaves in its result block: both batch entries, one after the other. -/
def outAt (c : Dev nD) : (cc0_stg5_0 : Ref sig .tc).ty.Contents (Elt F) := fun i =>
  if (i 0).val = 0 then k0_pay90 (v815 m c) (v836 m c) (v876 m c) (v877 m c) (rdV m c 0 10) (rdV m c 0 11) (fun | 0 => (0 : Fin 1) | 1 => (i 1 : Fin 128) | 2 => (i 2 : Fin 512))
  else k0_pay91 (v816 m c) (v836 m c) (v876 m c) (rdV m c 1 10) (rdV m c 1 11) (fun | 0 => (0 : Fin 1) | 1 => (i 1 : Fin 128) | 2 => (i 2 : Fin 512))

end Cert.RingAttn

end
-- ==== Proof.Reads.lean ====
/-
The loads of the program: what each reads of a buffer whose contents are known.
-/
module

public import proofs.«01_k».proof.Proof.Steps
public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer of device `c`, held in full. -/
def Held {s : Shape} {e : EltTy} (c : Dev nD) (M : Memref sig .tc .vmem s e) (f : Buf (Elt F) (M.view.loc (c : Thread nD τ))) : sProp 𝕄 :=
  M.view.loc (c : Thread nD τ) ↦[M.view.set]{fullShare} f

section
variable (c : Dev nD)

/-- A load of a head of the turned keys, of the turned values. -/
theorem wp_rdK (b p : ℕ) (hb : b < 2 ∧ p < 16) {α : Type} {Q : α → sProp 𝕄} {hl : kM.view.LoadsAt (hd b p hb).toLoadRect} {k : Vec F S1x128x1x64 .f32 → Prog (TpuEff nD τ sig (Elt F) Λ₀ .tc) α} :
    Held c kM (kRot m c) ⊢ iprop((Held c kM (kRot m c) -∗ wp frame (wpE (defs₀ (F := F)) 𝒱₀ (c : Thread nD τ) none) Set.univ (k (rdK m c b p)) Q) -∗ wp frame (wpE (defs₀ (F := F)) 𝒱₀ (c : Thread nD τ) none) Set.univ (.op (.load kM (hd b p hb).toLoadRect hl) k) Q) := by
  rw [show rdK m c b p = _ from dif_pos hb]
  exact wp_load 𝒱₀ (c : Thread nD τ) none Set.univ (m := kM) (r := (hd b p hb).toLoadRect) (View.setOn_subset_set _ _)
theorem wp_rdV (b p : ℕ) (hb : b < 2 ∧ p < 16) {α : Type} {Q : α → sProp 𝕄} {hl : vM.view.LoadsAt (hd b p hb).toLoadRect} {k : Vec F S1x128x1x64 .f32 → Prog (TpuEff nD τ sig (Elt F) Λ₀ .tc) α} :
    Held c vM (vRot m c) ⊢ iprop((Held c vM (vRot m c) -∗ wp frame (wpE (defs₀ (F := F)) 𝒱₀ (c : Thread nD τ) none) Set.univ (k (rdV m c b p)) Q) -∗ wp frame (wpE (defs₀ (F := F)) 𝒱₀ (c : Thread nD τ) none) Set.univ (.op (.load vM (hd b p hb).toLoadRect hl) k) Q) := by
  rw [show rdV m c b p = _ from dif_pos hb]
  exact wp_load 𝒱₀ (c : Thread nD τ) none Set.univ (m := vM) (r := (hd b p hb).toLoadRect) (View.setOn_subset_set _ _)

/-- A load of slot `s` of a full `wqA`. -/
theorem wp_rdQA (s : ℕ) (h4 : s < 4) {α : Type} {Q : α → sProp 𝕄} {hs : ∀ a, (![s, 0, 0] : Fin 3 → Nat) a + S1x512x128.size a ≤ S4x512x128.size a} {q : PosShare TreeShare}
    {hl : wqA.view.LoadsAt (Rect.unit (s := S4x512x128) ![s, 0, 0] S1x512x128.size hs).toLoadRect} {k : Vec F S1x512x128 .bf16 → Prog (TpuEff nD τ sig (Elt F) Λ₀ .tc) α} :
    At c wqA (Rect.unit (s := S4x512x128) ![s, 0, 0] S1x512x128.size hs) q (fqA m c) ⊢ iprop((At c wqA (Rect.unit (s := S4x512x128) ![s, 0, 0] S1x512x128.size hs) q (fqA m c) -∗ wp frame (wpE (defs₀ (F := F)) 𝒱₀ (c : Thread nD τ) none) Set.univ (k (rdQA m c s)) Q) -∗ wp frame (wpE (defs₀ (F := F)) 𝒱₀ (c : Thread nD τ) none) Set.univ (.op (.load wqA (Rect.unit (s := S4x512x128) ![s, 0, 0] S1x512x128.size hs).toLoadRect hl) k) Q) := by
  rw [show rdQA m c s = _ from (congrArg _ (congrArg (srcDev c) (Fin.ext (Nat.mod_eq_of_lt h4)))).trans (read_fqA m c ⟨s, h4⟩ hs).symm]
  exact wp_load 𝒱₀ (c : Thread nD τ) none Set.univ (m := wqA) (r := (Rect.unit (s := S4x512x128) ![s, 0, 0] S1x512x128.size hs).toLoadRect) (Finset.Subset.refl _)
/-- A load of slot `s` of a full `wqB`. -/
theorem wp_rdQB (s : ℕ) (h4 : s < 4) {α : Type} {Q : α → sProp 𝕄} {hs : ∀ a, (![s, 0, 0] : Fin 3 → Nat) a + S1x512x128.size a ≤ S4x512x128.size a} {q : PosShare TreeShare}
    {hl : wqB.view.LoadsAt (Rect.unit (s := S4x512x128) ![s, 0, 0] S1x512x128.size hs).toLoadRect} {k : Vec F S1x512x128 .bf16 → Prog (TpuEff nD τ sig (Elt F) Λ₀ .tc) α} :
    At c wqB (Rect.unit (s := S4x512x128) ![s, 0, 0] S1x512x128.size hs) q (fqB m c) ⊢ iprop((At c wqB (Rect.unit (s := S4x512x128) ![s, 0, 0] S1x512x128.size hs) q (fqB m c) -∗ wp frame (wpE (defs₀ (F := F)) 𝒱₀ (c : Thread nD τ) none) Set.univ (k (rdQB m c s)) Q) -∗ wp frame (wpE (defs₀ (F := F)) 𝒱₀ (c : Thread nD τ) none) Set.univ (.op (.load wqB (Rect.unit (s := S4x512x128) ![s, 0, 0] S1x512x128.size hs).toLoadRect hl) k) Q) := by
  rw [show rdQB m c s = _ from (congrArg _ (congrArg (srcDev c) (Fin.ext (Nat.mod_eq_of_lt h4)))).trans (read_fqB m c ⟨s, h4⟩ hs).symm]
  exact wp_load 𝒱₀ (c : Thread nD τ) none Set.univ (m := wqB) (r := (Rect.unit (s := S4x512x128) ![s, 0, 0] S1x512x128.size hs).toLoadRect) (Finset.Subset.refl _)
/-- A load of slot `s` of a full `woA`. -/
theorem wp_rdOA (s : ℕ) (h4 : s < 4) {α : Type} {Q : α → sProp 𝕄} {hs : ∀ a, (![s, 0, 0] : Fin 3 → Nat) a + S1x128x512.size a ≤ S4x128x512.size a} {q : PosShare TreeShare}
    {hl : woA.view.LoadsAt (Rect.unit (s := S4x128x512) ![s, 0, 0] S1x128x512.size hs).toLoadRect} {k : Vec F S1x128x512 .bf16 → Prog (TpuEff nD τ sig (Elt F) Λ₀ .tc) α} :
    At c woA (Rect.unit (s := S4x128x512) ![s, 0, 0] S1x128x512.size hs) q (foA m c) ⊢ iprop((At c woA (Rect.unit (s := S4x128x512) ![s, 0, 0] S1x128x512.size hs) q (foA m c) -∗ wp frame (wpE (defs₀ (F := F)) 𝒱₀ (c : Thread nD τ) none) Set.univ (k (rdOA m c s)) Q) -∗ wp frame (wpE (defs₀ (F := F)) 𝒱₀ (c : Thread nD τ) none) Set.univ (.op (.load woA (Rect.unit (s := S4x128x512) ![s, 0, 0] S1x128x512.size hs).toLoadRect hl) k) Q) := by
  rw [show rdOA m c s = _ from (congrArg _ (congrArg (srcDev c) (Fin.ext (Nat.mod_eq_of_lt h4)))).trans (read_foA m c ⟨s, h4⟩ hs).symm]
  exact wp_load 𝒱₀ (c : Thread nD τ) none Set.univ (m := woA) (r := (Rect.unit (s := S4x128x512) ![s, 0, 0] S1x128x512.size hs).toLoadRect) (Finset.Subset.refl _)
/-- A load of slot `s` of a full `woB`. -/
theorem wp_rdOB (s : ℕ) (h4 : s < 4) {α : Type} {Q : α → sProp 𝕄} {hs : ∀ a, (![s, 0, 0] : Fin 3 → Nat) a + S1x128x512.size a ≤ S4x128x512.size a} {q : PosShare TreeShare}
    {hl : woB.view.LoadsAt (Rect.unit (s := S4x128x512) ![s, 0, 0] S1x128x512.size hs).toLoadRect} {k : Vec F S1x128x512 .bf16 → Prog (TpuEff nD τ sig (Elt F) Λ₀ .tc) α} :
    At c woB (Rect.unit (s := S4x128x512) ![s, 0, 0] S1x128x512.size hs) q (foB m c) ⊢ iprop((At c woB (Rect.unit (s := S4x128x512) ![s, 0, 0] S1x128x512.size hs) q (foB m c) -∗ wp frame (wpE (defs₀ (F := F)) 𝒱₀ (c : Thread nD τ) none) Set.univ (k (rdOB m c s)) Q) -∗ wp frame (wpE (defs₀ (F := F)) 𝒱₀ (c : Thread nD τ) none) Set.univ (.op (.load woB (Rect.unit (s := S4x128x512) ![s, 0, 0] S1x128x512.size hs).toLoadRect hl) k) Q) := by
  rw [show rdOB m c s = _ from (congrArg _ (congrArg (srcDev c) (Fin.ext (Nat.mod_eq_of_lt h4)))).trans (read_foB m c ⟨s, h4⟩ hs).symm]
  exact wp_load 𝒱₀ (c : Thread nD τ) none Set.univ (m := woB) (r := (Rect.unit (s := S4x128x512) ![s, 0, 0] S1x128x512.size hs).toLoadRect) (Finset.Subset.refl _)

end

end Cert.RingAttn

end
-- ==== Proof.Moves.lean ====
/-
The steps the parts of the program are made of, besides loads: the copies agree with the contents wanted,
a piece stored into its slot, and the keys and values turned by two stores.
-/
module

public import proofs.«01_k».proof.Proof.Reads
public import Idealize.ShloMosaic.Lib.Pipeline.Value

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Copies -/

/-- The slot copy `i` reads, and the one it fills. -/
def slotFrom (i : Fin 12) : Fin 4 := match i with
  | 8 | 9 => 1 | 10 | 11 => 2 | _ => 0
def slotTo (i : Fin 12) : Fin 4 := match i with
  | 0 | 1 | 4 | 5 => 1 | 2 | 3 | 6 | 7 => 2 | _ => 3
/-- The slot a copy reads and the one it fills are for one device. -/
theorem src_move (c : Dev nD) (i : Fin 12) : srcDev c (slotFrom i) = srcDev (dst c i) (slotTo i) := by
  revert c i; decide

/-- The buffers' contents agree along a copy, place for place. -/
theorem move_fqA (c : Dev nD) (i : Fin 12) {hs : ∀ a, (![(slotFrom i).val, 0, 0] : Fin 3 → Nat) a + S1x512x128.size a ≤ S4x512x128.size a}
    {ht : ∀ a, (![(slotTo i).val, 0, 0] : Fin 3 → Nat) a + S1x512x128.size a ≤ S4x512x128.size a} (y : S1x512x128.Idx) :
    fqA m c ((Rect.unit (s := S4x512x128) ![(slotFrom i).val, 0, 0] S1x512x128.size hs).emb y) = fqA m (dst c i) ((Rect.unit (s := S4x512x128) ![(slotTo i).val, 0, 0] S1x512x128.size ht).emb y) := by
  rw [fqA_emb, fqA_emb, src_move]
theorem move_fqB (c : Dev nD) (i : Fin 12) {hs : ∀ a, (![(slotFrom i).val, 0, 0] : Fin 3 → Nat) a + S1x512x128.size a ≤ S4x512x128.size a}
    {ht : ∀ a, (![(slotTo i).val, 0, 0] : Fin 3 → Nat) a + S1x512x128.size a ≤ S4x512x128.size a} (y : S1x512x128.Idx) :
    fqB m c ((Rect.unit (s := S4x512x128) ![(slotFrom i).val, 0, 0] S1x512x128.size hs).emb y) = fqB m (dst c i) ((Rect.unit (s := S4x512x128) ![(slotTo i).val, 0, 0] S1x512x128.size ht).emb y) := by
  rw [fqB_emb, fqB_emb, src_move]
theorem move_foA (c : Dev nD) (i : Fin 12) {hs : ∀ a, (![(slotFrom i).val, 0, 0] : Fin 3 → Nat) a + S1x128x512.size a ≤ S4x128x512.size a}
    {ht : ∀ a, (![(slotTo i).val, 0, 0] : Fin 3 → Nat) a + S1x128x512.size a ≤ S4x128x512.size a} (y : S1x128x512.Idx) :
    foA m c ((Rect.unit (s := S4x128x512) ![(slotFrom i).val, 0, 0] S1x128x512.size hs).emb y) = foA m (dst c i) ((Rect.unit (s := S4x128x512) ![(slotTo i).val, 0, 0] S1x128x512.size ht).emb y) := by
  rw [foA_emb, foA_emb, src_move]
theorem move_foB (c : Dev nD) (i : Fin 12) {hs : ∀ a, (![(slotFrom i).val, 0, 0] : Fin 3 → Nat) a + S1x128x512.size a ≤ S4x128x512.size a}
    {ht : ∀ a, (![(slotTo i).val, 0, 0] : Fin 3 → Nat) a + S1x128x512.size a ≤ S4x128x512.size a} (y : S1x128x512.Idx) :
    foB m c ((Rect.unit (s := S4x128x512) ![(slotFrom i).val, 0, 0] S1x128x512.size hs).emb y) = foB m (dst c i) ((Rect.unit (s := S4x128x512) ![(slotTo i).val, 0, 0] S1x128x512.size ht).emb y) := by
  rw [foB_emb, foB_emb, src_move]

theorem creditQ {r : Rect S4x512x128} {h : ∀ a, r.stride a = 1} {hs : r.shape.Squeezes S512x128} (M : Memref sig .tc .vmem S4x512x128 .bf16) :
    ((M.slice r h).squeeze S512x128 hs).view.dmaCredit = N := rfl
theorem creditO {r : Rect S4x128x512} {h : ∀ a, r.stride a = 1} {hs : r.shape.Squeezes S128x512} (M : Memref sig .tc .vmem S4x128x512 .bf16) :
    ((M.slice r h).squeeze S128x512 hs).view.dmaCredit = N := by
  show (oS1 woB).view.dmaCredit = (qS1 wqA).view.dmaCredit
  decide

theorem roomR_eq (c : Dev nD) : (roomR (F := F) (nxt c) : sProp 𝕄)
    = iprop(room (dst c 0) 0 ∗ room (dst c 1) 1 ∗ room (dst c 4) 4 ∗ room (dst c 5) 5 ∗ room (dst c 8) 8 ∗ room (dst c 9) 9) := rfl
theorem roomL_eq (c : Dev nD) : (roomL (F := F) (prv c) : sProp 𝕄)
    = iprop(room (dst c 2) 2 ∗ room (dst c 3) 3 ∗ room (dst c 6) 6 ∗ room (dst c 7) 7 ∗ room (dst c 10) 10 ∗ room (dst c 11) 11) := rfl

/-! ## A store into a device's own slot -/

/-- A store of a piece into its slot leaves what is wanted there. -/
theorem wp_put {s : Shape} (c : Dev nD) (M : Memref sig .tc .vmem s .bf16) (r : Rect s) (f g : Buf (Elt F) (M.view.loc (c : Thread nD τ))) (w : r.shape.Idx → Elt F .bf16)
    (hw : ∀ i ∈ (M.access r).setOn Finset.univ, (M.access r).write (Elt F) f w Finset.univ i = g i)
    {α : Type} {Q : α → sProp 𝕄} {hx : (M.access r).Stores Finset.univ} {hm : (Finset.univ : Finset r.shape.Idx) = Finset.univ ∨ ∀ a, r.stride a = 1}
    {k : PUnit → Prog (TpuEff nD τ sig (Elt F) Λ₀ .tc) α} :
    At c M r fullShare f
      ⊢ iprop((At c M r fullShare g -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) := by
  have hset : (M.access r).setOn Finset.univ = M.view.setOn r.set := View.set_slice _ _
  unfold At
  rw [← hset]
  iintro Hf HQ
  iapply (wp_store 𝒱₀ (c : Thread nD τ) none Set.univ (m := M) (r := r) (Mk := Finset.univ) (Finset.Subset.refl _)) $$ Hf; iintro Hf
  iapply HQ
  iapply (Entails.of_eq (pointsTo_congr hw)) $$ Hf

/-! ## Turning the keys and the values -/

/-- Casting to the same shape twice is nothing. -/
theorem cast_twice {s : Shape} (h h' : s.ShapeCasts s) (v : Vec F s .f32) : shapeCast s (shapeCast s v h) h' = v := by
  rw [shapeCast_self, shapeCast_self]

/-- Two pairs of a load from one buffer and a store into another, the stores covering it. -/
theorem wp_two (c : Dev nD) (M M' : Memref sig .tc .vmem S2x128x16x64 .f32) {r₁ r₁' r₂ r₂' : Rect S2x128x16x64}
    (p₁ : Vec F r₁.shape .f32 → Vec F r₁'.shape .f32) (p₂ : Vec F r₂.shape .f32 → Vec F r₂'.shape .f32)
    (f : Buf (Elt F) (M.view.loc (c : Thread nD τ))) (f' g : Buf (Elt F) (M'.view.loc (c : Thread nD τ)))
    (hw : (M'.access r₂').write (Elt F) ((M'.access r₁').write (Elt F) f' (p₁ (M.view.readAt (Elt F) r₁.toLoadRect f)) Finset.univ) (p₂ (M.view.readAt (Elt F) r₂.toLoadRect f)) Finset.univ = g)
    {h₁ : M.view.LoadsAt r₁.toLoadRect} {h₁' : M'.view.LoadsAt r₁'.toLoadRect} {h₂ : M.view.LoadsAt r₂.toLoadRect} {h₂' : M'.view.LoadsAt r₂'.toLoadRect}
    {hx₁ : (M'.access r₁').Stores Finset.univ} {hx₂ : (M'.access r₂').Stores Finset.univ}
    {hm₁ : (Finset.univ : Finset r₁'.shape.Idx) = Finset.univ ∨ ∀ a, r₁'.stride a = 1} {hm₂ : (Finset.univ : Finset r₂'.shape.Idx) = Finset.univ ∨ ∀ a, r₂'.stride a = 1}
    {α : Type} {Q : α → sProp 𝕄} {k : PUnit → Prog (TpuEff nD τ sig (Elt F) Λ₀ .tc) α} :
    iprop(Held c M f ∗ Held c M' f')
      ⊢ iprop((Held c M f ∗ Held c M' g -∗ wp frame (wpE (defs₀ (F := F)) 𝒱₀ (c : Thread nD τ) none) Set.univ (k ⟨⟩) Q)
        -∗ wp frame (wpE (defs₀ (F := F)) 𝒱₀ (c : Thread nD τ) none) Set.univ (.op (.load M r₁.toLoadRect h₁) fun x => .op (.load M' r₁'.toLoadRect h₁') fun _ => .op (.store M' r₁' (p₁ x) Finset.univ hx₁ hm₁) fun _ =>
            .op (.load M r₂.toLoadRect h₂) fun x => .op (.load M' r₂'.toLoadRect h₂') fun _ => .op (.store M' r₂' (p₂ x) Finset.univ hx₂ hm₂) k) Q) := by
  unfold Held
  iintro ⟨Hf, Hg⟩ HQ
  iapply (wp_load 𝒱₀ (c : Thread nD τ) none Set.univ (m := M) (View.setOn_subset_set _ _)) $$ Hf; iintro Hf
  iapply (wp_load 𝒱₀ (c : Thread nD τ) none Set.univ (m := M') (View.setOn_subset_set _ _)) $$ Hg; iintro Hg
  iapply (wp_store 𝒱₀ (c : Thread nD τ) none Set.univ (m := M') (r := r₁') (Mk := Finset.univ) (View.set_slice_subset _ _)) $$ Hg; iintro Hg
  iapply (wp_load 𝒱₀ (c : Thread nD τ) none Set.univ (m := M) (View.setOn_subset_set _ _)) $$ Hf; iintro Hf
  iapply (wp_load 𝒱₀ (c : Thread nD τ) none Set.univ (m := M') (View.setOn_subset_set _ _)) $$ Hg; iintro Hg
  iapply (wp_store 𝒱₀ (c : Thread nD τ) none Set.univ (m := M') (r := r₂') (Mk := Finset.univ) (View.set_slice_subset _ _)) $$ Hg; iintro Hg
  rw [hw]
  iapply HQ
  isplitl [Hf] <;> iassumption

/-- Which device the program's comparisons pick out. -/
theorem is_dev (c : Dev nD) (n : Fin 4) : (Scalar.cmpi .ne (Scalar.extui (Scalar.cmpi .eq (v2 c) (BitVec.ofNat 32 n.val)) : BitVec 32) 0#32 = 1#1) ↔ c.val = n.val := by
  revert c n; decide

/-- The heads before the cut and those from it on are all the heads. -/
theorem heads_cover (o n n' : ℕ) (ho : o = n) (hi : ∀ a, (![0, 0, 0, 0] : Fin 4 → Nat) a + (![2, 128, n, 64] : Fin 4 → Nat) a ≤ S2x128x16x64.size a)
    (hi' : ∀ a, (![0, 0, o, 0] : Fin 4 → Nat) a + (![2, 128, n', 64] : Fin 4 → Nat) a ≤ S2x128x16x64.size a) (hn : n + n' = 16) (i : S2x128x16x64.Idx)
    (h : i ∉ (Rect.unit (s := S2x128x16x64) ![0, 0, o, 0] ![2, 128, n', 64] hi').set) : i ∈ (Rect.unit (s := S2x128x16x64) ![0, 0, 0, 0] ![2, 128, n, 64] hi).set := by
  rw [Rect.mem_set_unit] at h ⊢
  have h0 : (i 0).val < 2 := (i 0).isLt
  have h1 : (i 1).val < 128 := (i 1).isLt
  have h2 : (i 2).val < 16 := (i 2).isLt
  have h3 : (i 3).val < 64 := (i 3).isLt
  have hlt : (i 2).val < n := by
    by_contra hge
    apply h
    intro a; fin_cases a
    · show 0 ≤ (i 0).val ∧ (i 0).val < 0 + 2; omega
    · show 0 ≤ (i 1).val ∧ (i 1).val < 0 + 128; omega
    · show o ≤ (i 2).val ∧ (i 2).val < o + n'; omega
    · show 0 ≤ (i 3).val ∧ (i 3).val < 0 + 64; omega
  intro a; fin_cases a
  · show 0 ≤ (i 0).val ∧ (i 0).val < 0 + 2; omega
  · show 0 ≤ (i 1).val ∧ (i 1).val < 0 + 128; omega
  · show 0 ≤ (i 2).val ∧ (i 2).val < 0 + n; omega
  · show 0 ≤ (i 3).val ∧ (i 3).val < 0 + 64; omega

/-- Two stores of what two loads read, cut where the heads wrap round, leave the keys turned. -/
theorem kRot_two (c : Dev nD) (f : (cc0_scratch4 : Ref sig .tc).ty.Contents (Elt F)) (o n n' : ℕ)
    (hi₁ : ∀ a, (![0, 0, o, 0] : Fin 4 → Nat) a + (![2, 128, n, 64] : Fin 4 → Nat) a ≤ S2x128x16x64.size a)
    (hi₁' : ∀ a, (![0, 0, 0, 0] : Fin 4 → Nat) a + (![2, 128, n, 64] : Fin 4 → Nat) a ≤ S2x128x16x64.size a)
    (hi₂ : ∀ a, (![0, 0, 0, 0] : Fin 4 → Nat) a + (![2, 128, n', 64] : Fin 4 → Nat) a ≤ S2x128x16x64.size a)
    (hi₂' : ∀ a, (![0, 0, n, 0] : Fin 4 → Nat) a + (![2, 128, n', 64] : Fin 4 → Nat) a ≤ S2x128x16x64.size a)
    (hn : n + n' = 16) (ho : o = 4 * c.val) (hc : n = 16 - 4 * c.val)
    (p₁ : Vec F ⟨4, ![2, 128, n, 64]⟩ .f32 → Vec F ⟨4, ![2, 128, n, 64]⟩ .f32) (p₂ : Vec F ⟨4, ![2, 128, n', 64]⟩ .f32 → Vec F ⟨4, ![2, 128, n', 64]⟩ .f32)
    (e₁ : ∀ v, p₁ v = v) (e₂ : ∀ v, p₂ v = v) :
    (kM.access (Rect.unit (s := S2x128x16x64) ![0, 0, n, 0] ![2, 128, n', 64] hi₂')).write (Elt F)
      ((kM.access (Rect.unit (s := S2x128x16x64) ![0, 0, 0, 0] ![2, 128, n, 64] hi₁')).write (Elt F) f
        (p₁ (kS.view.readAt (Elt F) (Rect.unit (s := S2x128x16x64) ![0, 0, o, 0] ![2, 128, n, 64] hi₁).toLoadRect (kIn m c))) Finset.univ)
      (p₂ (kS.view.readAt (Elt F) (Rect.unit (s := S2x128x16x64) ![0, 0, 0, 0] ![2, 128, n', 64] hi₂).toLoadRect (kIn m c))) Finset.univ = kRot m c := by
  rw [e₁, e₂]
  have hlt : c.val < 4 := c.isLt
  exact stored_two cc0_scratch4 _ _ f (kRot m c) _ _
    (fun y => congrArg (kIn m c) (turn_emb c 0 o n hi₁' hi₁ (by omega) y))
    (fun y => congrArg (kIn m c) (turn_emb c n 0 n' hi₂' hi₂ (by omega) y))
    (heads_cover n n n' rfl hi₁' hi₂' hn)

/-- Two stores of what two loads read, cut where the heads wrap round, leave the values turned. -/
theorem vRot_two (c : Dev nD) (f : (cc0_scratch5 : Ref sig .tc).ty.Contents (Elt F)) (o n n' : ℕ)
    (hi₁ : ∀ a, (![0, 0, o, 0] : Fin 4 → Nat) a + (![2, 128, n, 64] : Fin 4 → Nat) a ≤ S2x128x16x64.size a)
    (hi₁' : ∀ a, (![0, 0, 0, 0] : Fin 4 → Nat) a + (![2, 128, n, 64] : Fin 4 → Nat) a ≤ S2x128x16x64.size a)
    (hi₂ : ∀ a, (![0, 0, 0, 0] : Fin 4 → Nat) a + (![2, 128, n', 64] : Fin 4 → Nat) a ≤ S2x128x16x64.size a)
    (hi₂' : ∀ a, (![0, 0, n, 0] : Fin 4 → Nat) a + (![2, 128, n', 64] : Fin 4 → Nat) a ≤ S2x128x16x64.size a)
    (hn : n + n' = 16) (ho : o = 4 * c.val) (hc : n = 16 - 4 * c.val)
    (p₁ : Vec F ⟨4, ![2, 128, n, 64]⟩ .f32 → Vec F ⟨4, ![2, 128, n, 64]⟩ .f32) (p₂ : Vec F ⟨4, ![2, 128, n', 64]⟩ .f32 → Vec F ⟨4, ![2, 128, n', 64]⟩ .f32)
    (e₁ : ∀ v, p₁ v = v) (e₂ : ∀ v, p₂ v = v) :
    (vM.access (Rect.unit (s := S2x128x16x64) ![0, 0, n, 0] ![2, 128, n', 64] hi₂')).write (Elt F)
      ((vM.access (Rect.unit (s := S2x128x16x64) ![0, 0, 0, 0] ![2, 128, n, 64] hi₁')).write (Elt F) f
        (p₁ (vS.view.readAt (Elt F) (Rect.unit (s := S2x128x16x64) ![0, 0, o, 0] ![2, 128, n, 64] hi₁).toLoadRect (vIn m c))) Finset.univ)
      (p₂ (vS.view.readAt (Elt F) (Rect.unit (s := S2x128x16x64) ![0, 0, 0, 0] ![2, 128, n', 64] hi₂).toLoadRect (vIn m c))) Finset.univ = vRot m c := by
  rw [e₁, e₂]
  have hlt : c.val < 4 := c.isLt
  exact stored_two cc0_scratch5 _ _ f (vRot m c) _ _
    (fun y => congrArg (vIn m c) (turn_emb c 0 o n hi₁' hi₁ (by omega) y))
    (fun y => congrArg (vIn m c) (turn_emb c n 0 n' hi₂' hi₂ (by omega) y))
    (heads_cover n n n' rfl hi₁' hi₂' hn)

end Cert.RingAttn

end
-- ==== Proof.PartsA.lean ====
/-
The first five parts of the program: the barrier at entry, the device's own pieces put into their slots, the eight
copies of the first round, and the keys and the values turned.
-/
module

public import proofs.«01_k».proof.Proof.Moves
public import Idealize.ShloMosaic.Lib.VecWindow

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = nxt c := Fin.ext (k0_dev12_eq c)
theorem dev13_eq (c : Dev nD) : (⟨k0_dev13 c, k0_dev13_lt c⟩ : Dev nD) = prv c := Fin.ext (k0_dev13_eq c)
theorem dev14_eq (c : Dev nD) : (⟨k0_dev14 c, k0_dev14_lt c⟩ : Dev nD) = prv c := Fin.ext (k0_dev14_eq c)

omit [FloatOps F] in
/-- A slot held in full is two shares to lend and one to keep, -/
theorem At_thirds {s : Shape} {e : EltTy} (c : Dev nD) (M : Memref sig .tc .vmem s e) (r : Rect s) (f : Buf (Elt F) (M.view.loc (c : Thread nD τ))) :
    (At c M r fullShare f : sProp 𝕄) ⊢ iprop(At c M r lent1 f ∗ At c M r lent2 f ∗ At c M r kept f) := by
  iintro H
  ihave H := (At_lend c M r f).1 $$ H
  icases H with ⟨Hl, Hk⟩
  ihave Hl := (At_lend₂ c M r f).1 $$ Hl
  icases Hl with ⟨H1, H2⟩
  isplitl [H1]; · iexact H1
  isplitl [H2] <;> iassumption

omit [FloatOps F] in
/-- and back. -/
theorem At_join {s : Shape} {e : EltTy} (c : Dev nD) (M : Memref sig .tc .vmem s e) (r : Rect s) (f : Buf (Elt F) (M.view.loc (c : Thread nD τ))) :
    (iprop(At c M r lent1 f ∗ At c M r lent2 f ∗ At c M r kept f) : sProp 𝕄) ⊢ At c M r fullShare f := by
  iintro ⟨H1, H2, Hk⟩
  iapply (At_lend c M r f).2
  isplitl [H1 H2]
  · iapply (At_lend₂ c M r f).2; isplitl [H1] <;> iassumption
  iassumption

/-- A load of a whole buffer reads what it holds. -/
theorem wp_read {s : Shape} {e : EltTy} (M : Memref sig .tc .vmem s e) {off : Fin s.rank → ℕ} (inb : ∀ a, off a + s.size a ≤ s.size a)
    (f : Buf (Elt F) (M.view.loc (c : Thread nD τ))) (x : Vec F s e) (hx : M.view.read (Elt F) f = x)
    {α : Type} {Q : α → sProp 𝕄} {hl : M.view.LoadsAt (Rect.unit off s.size inb).toLoadRect} {k : Vec F s e → Prog (TpuEff nD τ sig (Elt F) Λ₀ .tc) α} :
    Held c M f ⊢ iprop((Held c M f -∗ wp frame (wpE (defs₀ (F := F)) 𝒱₀ (c : Thread nD τ) none) Set.univ (k x) Q) -∗ wp frame (wpE (defs₀ (F := F)) 𝒱₀ (c : Thread nD τ) none) Set.univ (.op (.load M (Rect.unit off s.size inb).toLoadRect hl) k) Q) := by
  rw [← hx, ← View.readAt_full M.view f inb]
  exact wp_load 𝒱₀ (c : Thread nD τ) none Set.univ (m := M) (View.setOn_subset_set _ _)

/-- A load of a slot, its value unused, and a store of a piece into it leave what is wanted there. -/
theorem wp_own {s : Shape} (M : Memref sig .tc .vmem s .bf16) (r : Rect s) (f g : Buf (Elt F) (M.view.loc (c : Thread nD τ))) (w : r.shape.Idx → Elt F .bf16)
    (hw : ∀ y, cast (congrArg (Elt F) (M.access r).elt_eq.symm) (w y) = g ((M.access r).emb y))
    {α : Type} {Q : α → sProp 𝕄} {hl : M.view.LoadsAt r.toLoadRect} {hx : (M.access r).Stores Finset.univ} {hm : (Finset.univ : Finset r.shape.Idx) = Finset.univ ∨ ∀ a, r.stride a = 1}
    {k : PUnit → Prog (TpuEff nD τ sig (Elt F) Λ₀ .tc) α} :
    At c M r fullShare f
      ⊢ iprop((At c M r fullShare g -∗ wp frame (wpE (defs₀ (F := F)) 𝒱₀ (c : Thread nD τ) none) Set.univ (k ⟨⟩) Q) -∗ wp frame (wpE (defs₀ (F := F)) 𝒱₀ (c : Thread nD τ) none) Set.univ (.op (.load M r.toLoadRect hl) fun _ => .op (.store M r w Finset.univ hx hm) k) Q) := by
  iintro Hf HQ
  iapply (wp_load 𝒱₀ (c : Thread nD τ) none Set.univ (m := M) (Finset.Subset.refl _)) $$ [Hf]; · unfold At; iexact Hf
  iintro Hf
  iapply (wp_put c M r f g w (fun i hi => by
    obtain ⟨y, -, rfl⟩ := Finset.mem_map.mp hi
    exact (View.write_emb_of_mem _ _ (Finset.mem_univ y)).trans (hw y))) $$ [Hf]; · unfold At; iexact Hf
  iintro Hf
  iapply HQ; iexact Hf

/-- The barrier at entry, and the `Wq` pieces put into the device's own slots. -/
theorem part1 (f6 : Buf (Elt F) (wqA.view.loc (c : Thread nD τ))) (f8 : Buf (Elt F) (wqB.view.loc (c : Thread nD τ))) {Q : _ → sProp 𝕄} :
    iprop(records m K ∗ Owing c (O₀ c) ∗ dutyTok ER (barCell (prv c)) 0 true ∗ dutyTok ER (barCell (nxt c)) 0 false ∗ roomR c ∗ roomL c
        ∗ cred (tallyAt (barCell c) () 2) ∗ atPos ER (barCell c) 0 ∅ 0 ∗ Held c wqS (wqIn m c) ∗ Held c woS (woIn m c)
        ∗ At c wqA q0 fullShare f6 ∗ At c wqB q0 fullShare f8)
      ⊢ iprop((Owing c (dues c allCopies) ∗ semVal (barCell c) 0 ∗ roomL (prv c) ∗ roomR (nxt c) ∗ Held c wqS (wqIn m c) ∗ Held c woS (woIn m c)
        ∗ At c wqA q0 fullShare (fqA m c) ∗ At c wqB q0 fullShare (fqB m c) -∗ Q ⟨c, v2 c, v5 c, v7 c, k0_pay2 (woIn m c), k0_pay5 (woIn m c)⟩)
        -∗ wp frame (wpE (defs₀ (F := F)) 𝒱₀ (c : Thread nD τ) none) Set.univ (k0_part1 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) Q) := by
  rw [k0_part1_eq_skeleton]; unfold k0_part1_skel
  simp only [semSignalWord, semWaitWord, Prog.lift, Prog.bind_op, Prog.bind_ret, Prog.pure_eq_ret, wp_deviceId]
  iintro ⟨#HR, HO, Ht, Ht', HrR, HrL, Hc, Hat, Hwq, Hwo, Ha, Hb⟩ HQ
  iapply (wp_signal_left m K c _ (dev1_eq c)) $$ [HO Ht HrR]
  · isplitr; · iexact HR
    isplitl [HO]; · iexact HO
    isplitl [Ht] <;> iassumption
  iintro HO
  iapply (wp_signal_right m K c _ (dev2_eq c)) $$ [HO Ht' HrL]
  · isplitr; · iexact HR
    isplitl [HO]; · iexact HO
    isplitl [Ht'] <;> iassumption
  iintro HO
  iapply (wp_barrier m K c) $$ [HO Hc Hat]
  · isplitr; · iexact HR
    isplitl [HO]; · iexact HO
    isplitl [Hc] <;> iassumption
  iintro ⟨HO, Hz, HL, HRo⟩
  iapply (wp_read c wqS _ (wqIn m c) (wqIn m c) rfl) $$ Hwq; iintro Hwq
  iapply (wp_read c woS _ (woIn m c) (woIn m c) rfl) $$ Hwo; iintro Hwo
  iapply (wp_own c wqA q0 f6 (fqA m c) _ (fun y => (fqA_emb m c 0 _ y).symm)) $$ Ha; iintro Ha
  iapply (wp_own c wqB q0 f8 (fqB m c) _ (fun y => (fqB_emb m c 0 _ y).symm)) $$ Hb; iintro Hb
  unfold v5 v7 v2
  rw [wp_ret]; imodintro
  iapply HQ
  isplitl [HO]; · iexact HO
  isplitl [Hz]; · iexact Hz
  isplitl [HL]; · iexact HL
  isplitl [HRo]; · iexact HRo
  isplitl [Hwq]; · iexact Hwq
  isplitl [Hwo]; · iexact Hwo
  isplitl [Ha] <;> iassumption
/-- The `Wo` pieces put into the own slots; the first two copies. -/
theorem part2 (f7 : Buf (Elt F) (woA.view.loc (c : Thread nD τ))) (f9 : Buf (Elt F) (woB.view.loc (c : Thread nD τ))) {Q : _ → sProp 𝕄} :
    iprop(records m K ∗ Owing c (dues c allCopies) ∗ At c wqA q0 lent1 (fqA m c) ∗ At c woA o0 fullShare f7 ∗ At c woB o0 fullShare f9 ∗ mayCopy c 0 ∗ room (dst c 0) 0 ∗ mayCopy c 1 ∗ room (dst c 1) 1)
      ⊢ iprop((Owing c (dues c [2, 3, 4, 5, 6, 7, 8, 9, 10, 11]) ∗ At c woA o0 lent2 (foA m c) ∗ At c woA o0 kept (foA m c) ∗ At c woB o0 fullShare (foB m c) ∗ sent c 0 ∗ sent c 1 -∗ Q ⟨⟩)
        -∗ wp frame (wpE (defs₀ (F := F)) 𝒱₀ (c : Thread nD τ) none) Set.univ (k0_part2 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v7 c) (k0_pay2 (woIn m c)) (k0_pay5 (woIn m c))) Q) := by
  rw [k0_part2_eq_skeleton]; unfold k0_part2_skel
  simp only [Prog.lift, Prog.bind_op, Prog.bind_ret, Prog.pure_eq_ret]
  iintro ⟨#HR, HO, Hs0, Ho, Ho2, Hm0, Hr0, Hm1, Hr1⟩ HQ
  iapply (wp_own c woA o0 f7 (foA m c) _ (fun y => (foA_emb m c 0 _ y).symm)) $$ Ho; iintro Ho
  iapply (wp_own c woB o0 f9 (foB m c) _ (fun y => (foB_emb m c 0 _ y).symm)) $$ Ho2; iintro Ho2
  ihave Ho := (At_thirds c woA o0 (foA m c)) $$ Ho
  icases Ho with ⟨Hs1, Hs7, Hoa0⟩
  iapply (wp_copy m K c _ 0 [1, 2, 3, 4, 5, 6, 7, 8, 9, 10, 11] (dev3_eq c) (s' := S512x128) (M := wqA) (r := q0) (r' := q1) (q := lent1) (fun d => fqA m d) rfl rfl (creditQ _) rfl (fun _ => rfl) (fun _ => rfl)
    (fun fd => moved wqA _ _ _ _ _ fd fun y => move_fqA m c 0 y)) $$ [HO Hm0 Hr0 Hs0]
  · isplitr; · iexact HR
    isplitl [HO]; · iexact HO
    isplitl [Hm0]; · iexact Hm0
    isplitl [Hr0] <;> iassumption
  iintro ⟨HO, Hc0⟩
  iapply (wp_copy m K c _ 1 [2, 3, 4, 5, 6, 7, 8, 9, 10, 11] (dev4_eq c) (s' := S128x512) (M := woA) (r := o0) (r' := o1) (q := lent1) (fun d => foA m d) rfl rfl (creditO _) rfl (fun _ => rfl) (fun _ => rfl)
    (fun fd => moved woA _ _ _ _ _ fd fun y => move_foA m c 1 y)) $$ [HO Hm1 Hr1 Hs1]
  · isplitr; · iexact HR
    isplitl [HO]; · iexact HO
    isplitl [Hm1]; · iexact Hm1
    isplitl [Hr1] <;> iassumption
  iintro ⟨HO, Hc1⟩
  rw [wp_ret]; imodintro
  iapply HQ
  isplitl [HO]; · iexact HO
  isplitl [Hs7]; · iexact Hs7
  isplitl [Hoa0]; · iexact Hoa0
  isplitl [Ho2]; · iexact Ho2
  isplitl [Hc0] <;> iassumption

/-- Three copies. -/
theorem part3 {Q : _ → sProp 𝕄} :
    iprop(records m K ∗ Owing c (dues c [2, 3, 4, 5, 6, 7, 8, 9, 10, 11]) ∗ mayCopy c 2 ∗ room (dst c 2) 2 ∗ At c wqB q0 lent1 (fqB m c) ∗ mayCopy c 3 ∗ room (dst c 3) 3 ∗ At c woB o0 lent1 (foB m c) ∗ mayCopy c 4 ∗ room (dst c 4) 4 ∗ At c wqB q0 lent2 (fqB m c))
      ⊢ iprop((Owing c (dues c [5, 6, 7, 8, 9, 10, 11]) ∗ sent c 2 ∗ sent c 3 ∗ sent c 4 -∗ Q ⟨⟩)
        -∗ wp frame (wpE (defs₀ (F := F)) 𝒱₀ (c : Thread nD τ) none) Set.univ (k0_part3 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v5 c) (v7 c)) Q) := by
  rw [k0_part3_eq_skeleton]; unfold k0_part3_skel
  simp only [Prog.lift, Prog.bind_op, Prog.bind_ret, Prog.pure_eq_ret]
  iintro ⟨#HR, HO, Hm2, Hr2, Hs2, Hm3, Hr3, Hs3, Hm4, Hr4, Hs4⟩ HQ
  iapply (wp_copy m K c _ 2 [3, 4, 5, 6, 7, 8, 9, 10, 11] (dev5_eq c) (s' := S512x128) (M := wqB) (r := q0) (r' := q2) (q := lent1) (fun d => fqB m d) rfl rfl (creditQ _) rfl (fun _ => rfl) (fun _ => rfl)
    (fun fd => moved wqB _ _ _ _ _ fd fun y => move_fqB m c 2 y)) $$ [HO Hm2 Hr2 Hs2]
  · isplitr; · iexact HR
    isplitl [HO]; · iexact HO
    isplitl [Hm2]; · iexact Hm2
    isplitl [Hr2] <;> iassumption
  iintro ⟨HO, Hc2⟩
  iapply (wp_copy m K c _ 3 [4, 5, 6, 7, 8, 9, 10, 11] (dev6_eq c) (s' := S128x512) (M := woB) (r := o0) (r' := o2) (q := lent1) (fun d => foB m d) rfl rfl (creditO _) rfl (fun _ => rfl) (fun _ => rfl)
    (fun fd => moved woB _ _ _ _ _ fd fun y => move_foB m c 3 y)) $$ [HO Hm3 Hr3 Hs3]
  · isplitr; · iexact HR
    isplitl [HO]; · iexact HO
    isplitl [Hm3]; · iexact Hm3
    isplitl [Hr3] <;> iassumption
  iintro ⟨HO, Hc3⟩
  iapply (wp_copy m K c _ 4 [5, 6, 7, 8, 9, 10, 11] (dev7_eq c) (s' := S512x128) (M := wqB) (r := q0) (r' := q1) (q := lent2) (fun d => fqB m d) rfl rfl (creditQ _) rfl (fun _ => rfl) (fun _ => rfl)
    (fun fd => moved wqB _ _ _ _ _ fd fun y => move_fqB m c 4 y)) $$ [HO Hm4 Hr4 Hs4]
  · isplitr; · iexact HR
    isplitl [HO]; · iexact HO
    isplitl [Hm4]; · iexact Hm4
    isplitl [Hr4] <;> iassumption
  iintro ⟨HO, Hc4⟩
  rw [wp_ret]; imodintro
  iapply HQ
  isplitl [HO]; · iexact HO
  isplitl [Hc2]; · iexact Hc2
  isplitl [Hc3] <;> iassumption

/-- Two copies. -/
theorem part4 {Q : _ → sProp 𝕄} :
    iprop(records m K ∗ Owing c (dues c [5, 6, 7, 8, 9, 10, 11]) ∗ mayCopy c 5 ∗ room (dst c 5) 5 ∗ At c woB o0 lent2 (foB m c) ∗ mayCopy c 6 ∗ room (dst c 6) 6 ∗ At c wqA q0 lent2 (fqA m c))
      ⊢ iprop((Owing c (dues c [7, 8, 9, 10, 11]) ∗ sent c 5 ∗ sent c 6 -∗ Q ⟨⟩)
        -∗ wp frame (wpE (defs₀ (F := F)) 𝒱₀ (c : Thread nD τ) none) Set.univ (k0_part4 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v5 c) (v7 c)) Q) := by
  rw [k0_part4_eq_skeleton]; unfold k0_part4_skel
  simp only [Prog.lift, Prog.bind_op, Prog.bind_ret, Prog.pure_eq_ret]
  iintro ⟨#HR, HO, Hm5, Hr5, Hs5, Hm6, Hr6, Hs6⟩ HQ
  iapply (wp_copy m K c _ 5 [6, 7, 8, 9, 10, 11] (dev8_eq c) (s' := S128x512) (M := woB) (r := o0) (r' := o1) (q := lent2) (fun d => foB m d) rfl rfl (creditO _) rfl (fun _ => rfl) (fun _ => rfl)
    (fun fd => moved woB _ _ _ _ _ fd fun y => move_foB m c 5 y)) $$ [HO Hm5 Hr5 Hs5]
  · isplitr; · iexact HR
    isplitl [HO]; · iexact HO
    isplitl [Hm5]; · iexact Hm5
    isplitl [Hr5] <;> iassumption
  iintro ⟨HO, Hc5⟩
  iapply (wp_copy m K c _ 6 [7, 8, 9, 10, 11] (dev9_eq c) (s' := S512x128) (M := wqA) (r := q0) (r' := q2) (q := lent2) (fun d => fqA m d) rfl rfl (creditQ _) rfl (fun _ => rfl) (fun _ => rfl)
    (fun fd => moved wqA _ _ _ _ _ fd fun y => move_fqA m c 6 y)) $$ [HO Hm6 Hr6 Hs6]
  · isplitr; · iexact HR
    isplitl [HO]; · iexact HO
    isplitl [Hm6]; · iexact Hm6
    isplitl [Hr6] <;> iassumption
  iintro ⟨HO, Hc6⟩
  rw [wp_ret]; imodintro
  iapply HQ
  isplitl [HO]; · iexact HO
  isplitl [Hc5] <;> iassumption

/-- A load of a box of a buffer held in full. -/
theorem wp_box {s : Shape} {e : EltTy} (M : Memref sig .tc .vmem s e) (r : Rect s) (f : Buf (Elt F) (M.view.loc (c : Thread nD τ)))
    {α : Type} {Q : α → sProp 𝕄} {hl : M.view.LoadsAt r.toLoadRect} {k : Vec F r.shape e → Prog (TpuEff nD τ sig (Elt F) Λ₀ .tc) α} :
    Held c M f ⊢ iprop((Held c M f -∗ wp frame (wpE (defs₀ (F := F)) 𝒱₀ (c : Thread nD τ) none) Set.univ (k (M.view.readAt (Elt F) r.toLoadRect f)) Q) -∗ wp frame (wpE (defs₀ (F := F)) 𝒱₀ (c : Thread nD τ) none) Set.univ (.op (.load M r.toLoadRect hl) k) Q) :=
  wp_load 𝒱₀ (c : Thread nD τ) none Set.univ (m := M) (View.setOn_subset_set _ _)
/-- A store into one. -/
theorem wp_putBox {s : Shape} {e : EltTy} (M : Memref sig .tc .vmem s e) (r : Rect s) (f : Buf (Elt F) (M.view.loc (c : Thread nD τ))) (w : Vec F r.shape e)
    {α : Type} {Q : α → sProp 𝕄} {hx : (M.access r).Stores Finset.univ} {hm : (Finset.univ : Finset r.shape.Idx) = Finset.univ ∨ ∀ a, r.stride a = 1}
    {k : PUnit → Prog (TpuEff nD τ sig (Elt F) Λ₀ .tc) α} :
    Held c M f ⊢ iprop((Held c M ((M.access r).write (Elt F) f w Finset.univ) -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) :=
  wp_store 𝒱₀ (c : Thread nD τ) none Set.univ (m := M) (r := r) (Mk := Finset.univ) (View.set_slice_subset _ _)
theorem pay8_eq (v : Vec F S2x128x16x64 .f32) : k0_pay8 v = v := cast_twice _ _ v
theorem pay9_eq (v : Vec F S2x128x16x64 .f32) : k0_pay9 v = v := cast_twice _ _ v
theorem pay10_eq (v : Vec F S2x128x12x64 .f32) : k0_pay10 v = v := cast_twice _ _ v
theorem pay11_eq (v : Vec F S2x128x4x64 .f32) : k0_pay11 v = v := cast_twice _ _ v
theorem pay12_eq (v : Vec F S2x128x12x64 .f32) : k0_pay12 v = v := cast_twice _ _ v
theorem pay13_eq (v : Vec F S2x128x4x64 .f32) : k0_pay13 v = v := cast_twice _ _ v
theorem pay14_eq (v : Vec F S2x128x8x64 .f32) : k0_pay14 v = v := cast_twice _ _ v
theorem pay15_eq (v : Vec F S2x128x8x64 .f32) : k0_pay15 v = v := cast_twice _ _ v
theorem pay16_eq (v : Vec F S2x128x8x64 .f32) : k0_pay16 v = v := cast_twice _ _ v
theorem pay17_eq (v : Vec F S2x128x8x64 .f32) : k0_pay17 v = v := cast_twice _ _ v
theorem pay18_eq (v : Vec F S2x128x4x64 .f32) : k0_pay18 v = v := cast_twice _ _ v
theorem pay19_eq (v : Vec F S2x128x12x64 .f32) : k0_pay19 v = v := cast_twice _ _ v
theorem pay20_eq (v : Vec F S2x128x4x64 .f32) : k0_pay20 v = v := cast_twice _ _ v
theorem pay21_eq (v : Vec F S2x128x12x64 .f32) : k0_pay21 v = v := cast_twice _ _ v

/-- Device 0 turns nothing. -/
theorem turn_zero (h : c.val = 0) (i : S2x128x16x64.Idx) : turn c i = i := by
  funext a
  have h2 : (i 2).val < 16 := (i 2).isLt
  match a with
  | 0 => rfl
  | 1 => rfl
  | 2 => exact Fin.ext (by show ((i 2).val + 4 * c.val) % 16 = (i 2).val; omega)
  | 3 => rfl
theorem kRot_zero (h : c.val = 0) (f : Buf (Elt F) (kM.view.loc (c : Thread nD τ))) :
    (kM.access (Rect.unit (s := S2x128x16x64) ![0, 0, 0, 0] S2x128x16x64.size inb_S2x128x16x64_S2x128x16x64_0_0_0_0)).write (Elt F) f (k0_pay8 (kIn m c)) Finset.univ = kRot m c := by
  rw [pay8_eq]
  exact (Memref.write_access_unit_zero_univ (Elt F) cc0_scratch4 (by decide) _ f (kIn m c)).trans (funext fun i => congrArg (kIn m c) (turn_zero c h i).symm)
theorem vRot_zero (h : c.val = 0) (f : Buf (Elt F) (vM.view.loc (c : Thread nD τ))) :
    (vM.access (Rect.unit (s := S2x128x16x64) ![0, 0, 0, 0] S2x128x16x64.size inb_S2x128x16x64_S2x128x16x64_0_0_0_0)).write (Elt F) f (k0_pay9 (vIn m c)) Finset.univ = vRot m c := by
  rw [pay9_eq]
  exact (Memref.write_access_unit_zero_univ (Elt F) cc0_scratch5 (by decide) _ f (vIn m c)).trans (funext fun i => congrArg (vIn m c) (turn_zero c h i).symm)

/-- The last copy of the first round; the keys and the values turned by the device's own heads. -/
theorem part5 (fk : Buf (Elt F) (kM.view.loc (c : Thread nD τ))) (fv : Buf (Elt F) (vM.view.loc (c : Thread nD τ))) {Q : _ → sProp 𝕄} :
    iprop(records m K ∗ Owing c (dues c [7, 8, 9, 10, 11]) ∗ mayCopy c 7 ∗ room (dst c 7) 7 ∗ At c woA o0 lent2 (foA m c)
        ∗ Held c kS (kIn m c) ∗ Held c kM fk ∗ Held c vS (vIn m c) ∗ Held c vM fv)
      ⊢ iprop((Owing c (dues c [8, 9, 10, 11]) ∗ sent c 7 ∗ Held c kS (kIn m c) ∗ Held c kM (kRot m c) ∗ Held c vS (vIn m c) ∗ Held c vM (vRot m c)
          -∗ Q ⟨v128, v129 c, k0_pay22, k0_pay23, k0_pay24⟩)
        -∗ wp frame (wpE (defs₀ (F := F)) 𝒱₀ (c : Thread nD τ) none) Set.univ (k0_part5 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v2 c)) Q) := by
  rw [k0_part5_eq_skeleton]; unfold k0_part5_skel
  simp only [Prog.lift, Prog.bind_op, Prog.bind_ret, Prog.pure_eq_ret]
  iintro ⟨#HR, HO, Hm7, Hr7, Hs7, Hk, HkM, Hv, HvM⟩ HQ
  iapply (wp_copy m K c _ 7 [8, 9, 10, 11] (dev10_eq c) (s' := S128x512) (M := woA) (r := o0) (r' := o2) (q := lent2) (fun d => foA m d) rfl rfl (creditO _) rfl (fun _ => rfl) (fun _ => rfl)
    (fun fd => moved woA _ _ _ _ _ fd fun y => move_foA m c 7 y)) $$ [HO Hm7 Hr7 Hs7]
  · isplitr; · iexact HR
    isplitl [HO]; · iexact HO
    isplitl [Hm7]; · iexact Hm7
    isplitl [Hr7] <;> iassumption
  iintro ⟨HO, Hc7⟩
  have h4 : c.val < 4 := c.isLt
  have i0 : Scalar.cmpi .ne (Scalar.extui (Scalar.cmpi .eq (v2 c) 0#32) : BitVec 32) 0#32 = 1#1 ↔ c.val = 0 := is_dev c 0
  have i1 : Scalar.cmpi .ne (Scalar.extui (Scalar.cmpi .eq (v2 c) 1#32) : BitVec 32) 0#32 = 1#1 ↔ c.val = 1 := is_dev c 1
  have i2 : Scalar.cmpi .ne (Scalar.extui (Scalar.cmpi .eq (v2 c) 2#32) : BitVec 32) 0#32 = 1#1 ↔ c.val = 2 := is_dev c 2
  have i3 : Scalar.cmpi .ne (Scalar.extui (Scalar.cmpi .eq (v2 c) 3#32) : BitVec 32) 0#32 = 1#1 ↔ c.val = 3 := is_dev c 3
  obtain h | h | h | h : c.val = 0 ∨ c.val = 1 ∨ c.val = 2 ∨ c.val = 3 := by omega
  · simp only [dif_pos (i0.mpr h), dif_neg (fun e => absurd (i1.mp e) (by rw [h]; decide)), dif_neg (fun e => absurd (i2.mp e) (by rw [h]; decide)), dif_neg (fun e => absurd (i3.mp e) (by rw [h]; decide)), Prog.bind_op, Prog.bind_ret]
    iapply (wp_read c kS _ (kIn m c) (kIn m c) rfl) $$ Hk; iintro Hk
    iapply (wp_box c kM (Rect.unit (s := S2x128x16x64) ![0, 0, 0, 0] S2x128x16x64.size inb_S2x128x16x64_S2x128x16x64_0_0_0_0) _) $$ HkM; iintro HkM
    iapply (wp_putBox c kM (Rect.unit (s := S2x128x16x64) ![0, 0, 0, 0] S2x128x16x64.size inb_S2x128x16x64_S2x128x16x64_0_0_0_0) _ (k0_pay8 _)) $$ HkM; iintro HkM
    rw [kRot_zero m c h]
    iapply (wp_read c vS _ (vIn m c) (vIn m c) rfl) $$ Hv; iintro Hv
    iapply (wp_box c vM (Rect.unit (s := S2x128x16x64) ![0, 0, 0, 0] S2x128x16x64.size inb_S2x128x16x64_S2x128x16x64_0_0_0_0) _) $$ HvM; iintro HvM
    iapply (wp_putBox c vM (Rect.unit (s := S2x128x16x64) ![0, 0, 0, 0] S2x128x16x64.size inb_S2x128x16x64_S2x128x16x64_0_0_0_0) _ (k0_pay9 _)) $$ HvM; iintro HvM
    rw [vRot_zero m c h]
    unfold v128 v129
    rw [wp_ret]; imodintro
    iapply HQ
    isplitl [HO]; · iexact HO
    isplitl [Hc7]; · iexact Hc7
    isplitl [Hk]; · iexact Hk
    isplitl [HkM]; · iexact HkM
    isplitl [Hv] <;> iassumption
  · simp only [dif_neg (fun e => absurd (i0.mp e) (by rw [h]; decide)), dif_pos (i1.mpr h), dif_neg (fun e => absurd (i2.mp e) (by rw [h]; decide)), dif_neg (fun e => absurd (i3.mp e) (by rw [h]; decide)), Prog.bind_op, Prog.bind_ret]
    iapply (wp_box c kS (Rect.unit (s := S2x128x16x64) ![0, 0, 4, 0] S2x128x12x64.size inb_S2x128x16x64_S2x128x12x64_0_0_4_0) _) $$ Hk; iintro Hk
    iapply (wp_box c kM (Rect.unit (s := S2x128x16x64) ![0, 0, 0, 0] S2x128x12x64.size inb_S2x128x16x64_S2x128x12x64_0_0_0_0) _) $$ HkM; iintro HkM
    iapply (wp_putBox c kM (Rect.unit (s := S2x128x16x64) ![0, 0, 0, 0] S2x128x12x64.size inb_S2x128x16x64_S2x128x12x64_0_0_0_0) _ (k0_pay10 _)) $$ HkM; iintro HkM
    iapply (wp_box c kS (Rect.unit (s := S2x128x16x64) ![0, 0, 0, 0] S2x128x4x64.size inb_S2x128x16x64_S2x128x4x64_0_0_0_0) _) $$ Hk; iintro Hk
    iapply (wp_box c kM (Rect.unit (s := S2x128x16x64) ![0, 0, 12, 0] S2x128x4x64.size inb_S2x128x16x64_S2x128x4x64_0_0_12_0) _) $$ HkM; iintro HkM
    iapply (wp_putBox c kM (Rect.unit (s := S2x128x16x64) ![0, 0, 12, 0] S2x128x4x64.size inb_S2x128x16x64_S2x128x4x64_0_0_12_0) _ (k0_pay11 _)) $$ HkM; iintro HkM
    rw [kRot_two m c fk 4 12 4 _ _ _ _ (by decide) (by rw [h]) (by rw [h]) k0_pay10 k0_pay11 pay10_eq pay11_eq]
    iapply (wp_box c vS (Rect.unit (s := S2x128x16x64) ![0, 0, 4, 0] S2x128x12x64.size inb_S2x128x16x64_S2x128x12x64_0_0_4_0) _) $$ Hv; iintro Hv
    iapply (wp_box c vM (Rect.unit (s := S2x128x16x64) ![0, 0, 0, 0] S2x128x12x64.size inb_S2x128x16x64_S2x128x12x64_0_0_0_0) _) $$ HvM; iintro HvM
    iapply (wp_putBox c vM (Rect.unit (s := S2x128x16x64) ![0, 0, 0, 0] S2x128x12x64.size inb_S2x128x16x64_S2x128x12x64_0_0_0_0) _ (k0_pay12 _)) $$ HvM; iintro HvM
    iapply (wp_box c vS (Rect.unit (s := S2x128x16x64) ![0, 0, 0, 0] S2x128x4x64.size inb_S2x128x16x64_S2x128x4x64_0_0_0_0) _) $$ Hv; iintro Hv
    iapply (wp_box c vM (Rect.unit (s := S2x128x16x64) ![0, 0, 12, 0] S2x128x4x64.size inb_S2x128x16x64_S2x128x4x64_0_0_12_0) _) $$ HvM; iintro HvM
    iapply (wp_putBox c vM (Rect.unit (s := S2x128x16x64) ![0, 0, 12, 0] S2x128x4x64.size inb_S2x128x16x64_S2x128x4x64_0_0_12_0) _ (k0_pay13 _)) $$ HvM; iintro HvM
    rw [vRot_two m c fv 4 12 4 _ _ _ _ (by decide) (by rw [h]) (by rw [h]) k0_pay12 k0_pay13 pay12_eq pay13_eq]
    unfold v128 v129
    rw [wp_ret]; imodintro
    iapply HQ
    isplitl [HO]; · iexact HO
    isplitl [Hc7]; · iexact Hc7
    isplitl [Hk]; · iexact Hk
    isplitl [HkM]; · iexact HkM
    isplitl [Hv] <;> iassumption
  · simp only [dif_neg (fun e => absurd (i0.mp e) (by rw [h]; decide)), dif_neg (fun e => absurd (i1.mp e) (by rw [h]; decide)), dif_pos (i2.mpr h), dif_neg (fun e => absurd (i3.mp e) (by rw [h]; decide)), Prog.bind_op, Prog.bind_ret]
    iapply (wp_box c kS (Rect.unit (s := S2x128x16x64) ![0, 0, 8, 0] S2x128x8x64.size inb_S2x128x16x64_S2x128x8x64_0_0_8_0) _) $$ Hk; iintro Hk
    iapply (wp_box c kM (Rect.unit (s := S2x128x16x64) ![0, 0, 0, 0] S2x128x8x64.size inb_S2x128x16x64_S2x128x8x64_0_0_0_0) _) $$ HkM; iintro HkM
    iapply (wp_putBox c kM (Rect.unit (s := S2x128x16x64) ![0, 0, 0, 0] S2x128x8x64.size inb_S2x128x16x64_S2x128x8x64_0_0_0_0) _ (k0_pay14 _)) $$ HkM; iintro HkM
    iapply (wp_box c kS (Rect.unit (s := S2x128x16x64) ![0, 0, 0, 0] S2x128x8x64.size inb_S2x128x16x64_S2x128x8x64_0_0_0_0) _) $$ Hk; iintro Hk
    iapply (wp_box c kM (Rect.unit (s := S2x128x16x64) ![0, 0, 8, 0] S2x128x8x64.size inb_S2x128x16x64_S2x128x8x64_0_0_8_0) _) $$ HkM; iintro HkM
    iapply (wp_putBox c kM (Rect.unit (s := S2x128x16x64) ![0, 0, 8, 0] S2x128x8x64.size inb_S2x128x16x64_S2x128x8x64_0_0_8_0) _ (k0_pay15 _)) $$ HkM; iintro HkM
    rw [kRot_two m c fk 8 8 8 _ _ _ _ (by decide) (by rw [h]) (by rw [h]) k0_pay14 k0_pay15 pay14_eq pay15_eq]
    iapply (wp_box c vS (Rect.unit (s := S2x128x16x64) ![0, 0, 8, 0] S2x128x8x64.size inb_S2x128x16x64_S2x128x8x64_0_0_8_0) _) $$ Hv; iintro Hv
    iapply (wp_box c vM (Rect.unit (s := S2x128x16x64) ![0, 0, 0, 0] S2x128x8x64.size inb_S2x128x16x64_S2x128x8x64_0_0_0_0) _) $$ HvM; iintro HvM
    iapply (wp_putBox c vM (Rect.unit (s := S2x128x16x64) ![0, 0, 0, 0] S2x128x8x64.size inb_S2x128x16x64_S2x128x8x64_0_0_0_0) _ (k0_pay16 _)) $$ HvM; iintro HvM
    iapply (wp_box c vS (Rect.unit (s := S2x128x16x64) ![0, 0, 0, 0] S2x128x8x64.size inb_S2x128x16x64_S2x128x8x64_0_0_0_0) _) $$ Hv; iintro Hv
    iapply (wp_box c vM (Rect.unit (s := S2x128x16x64) ![0, 0, 8, 0] S2x128x8x64.size inb_S2x128x16x64_S2x128x8x64_0_0_8_0) _) $$ HvM; iintro HvM
    iapply (wp_putBox c vM (Rect.unit (s := S2x128x16x64) ![0, 0, 8, 0] S2x128x8x64.size inb_S2x128x16x64_S2x128x8x64_0_0_8_0) _ (k0_pay17 _)) $$ HvM; iintro HvM
    rw [vRot_two m c fv 8 8 8 _ _ _ _ (by decide) (by rw [h]) (by rw [h]) k0_pay16 k0_pay17 pay16_eq pay17_eq]
    unfold v128 v129
    rw [wp_ret]; imodintro
    iapply HQ
    isplitl [HO]; · iexact HO
    isplitl [Hc7]; · iexact Hc7
    isplitl [Hk]; · iexact Hk
    isplitl [HkM]; · iexact HkM
    isplitl [Hv] <;> iassumption
  · simp only [dif_neg (fun e => absurd (i0.mp e) (by rw [h]; decide)), dif_neg (fun e => absurd (i1.mp e) (by rw [h]; decide)), dif_neg (fun e => absurd (i2.mp e) (by rw [h]; decide)), dif_pos (i3.mpr h), Prog.bind_op, Prog.bind_ret]
    iapply (wp_box c kS (Rect.unit (s := S2x128x16x64) ![0, 0, 12, 0] S2x128x4x64.size inb_S2x128x16x64_S2x128x4x64_0_0_12_0) _) $$ Hk; iintro Hk
    iapply (wp_box c kM (Rect.unit (s := S2x128x16x64) ![0, 0, 0, 0] S2x128x4x64.size inb_S2x128x16x64_S2x128x4x64_0_0_0_0) _) $$ HkM; iintro HkM
    iapply (wp_putBox c kM (Rect.unit (s := S2x128x16x64) ![0, 0, 0, 0] S2x128x4x64.size inb_S2x128x16x64_S2x128x4x64_0_0_0_0) _ (k0_pay18 _)) $$ HkM; iintro HkM
    iapply (wp_box c kS (Rect.unit (s := S2x128x16x64) ![0, 0, 0, 0] S2x128x12x64.size inb_S2x128x16x64_S2x128x12x64_0_0_0_0) _) $$ Hk; iintro Hk
    iapply (wp_box c kM (Rect.unit (s := S2x128x16x64) ![0, 0, 4, 0] S2x128x12x64.size inb_S2x128x16x64_S2x128x12x64_0_0_4_0) _) $$ HkM; iintro HkM
    iapply (wp_putBox c kM (Rect.unit (s := S2x128x16x64) ![0, 0, 4, 0] S2x128x12x64.size inb_S2x128x16x64_S2x128x12x64_0_0_4_0) _ (k0_pay19 _)) $$ HkM; iintro HkM
    rw [kRot_two m c fk 12 4 12 _ _ _ _ (by decide) (by rw [h]) (by rw [h]) k0_pay18 k0_pay19 pay18_eq pay19_eq]
    iapply (wp_box c vS (Rect.unit (s := S2x128x16x64) ![0, 0, 12, 0] S2x128x4x64.size inb_S2x128x16x64_S2x128x4x64_0_0_12_0) _) $$ Hv; iintro Hv
    iapply (wp_box c vM (Rect.unit (s := S2x128x16x64) ![0, 0, 0, 0] S2x128x4x64.size inb_S2x128x16x64_S2x128x4x64_0_0_0_0) _) $$ HvM; iintro HvM
    iapply (wp_putBox c vM (Rect.unit (s := S2x128x16x64) ![0, 0, 0, 0] S2x128x4x64.size inb_S2x128x16x64_S2x128x4x64_0_0_0_0) _ (k0_pay20 _)) $$ HvM; iintro HvM
    iapply (wp_box c vS (Rect.unit (s := S2x128x16x64) ![0, 0, 0, 0] S2x128x12x64.size inb_S2x128x16x64_S2x128x12x64_0_0_0_0) _) $$ Hv; iintro Hv
    iapply (wp_box c vM (Rect.unit (s := S2x128x16x64) ![0, 0, 4, 0] S2x128x12x64.size inb_S2x128x16x64_S2x128x12x64_0_0_4_0) _) $$ HvM; iintro HvM
    iapply (wp_putBox c vM (Rect.unit (s := S2x128x16x64) ![0, 0, 4, 0] S2x128x12x64.size inb_S2x128x16x64_S2x128x12x64_0_0_4_0) _ (k0_pay21 _)) $$ HvM; iintro HvM
    rw [vRot_two m c fv 12 4 12 _ _ _ _ (by decide) (by rw [h]) (by rw [h]) k0_pay20 k0_pay21 pay20_eq pay21_eq]
    unfold v128 v129
    rw [wp_ret]; imodintro
    iapply HQ
    isplitl [HO]; · iexact HO
    isplitl [Hc7]; · iexact Hc7
    isplitl [Hk]; · iexact Hk
    isplitl [HkM]; · iexact HkM
    isplitl [Hv] <;> iassumption

end Cert.RingAttn

end
-- ==== Proof.PartsB.lean ====
/-
Parts six to seventeen of the program: the own block and the two neighbours' blocks that come first.
-/
module

public import proofs.«01_k».proof.Proof.PartsA

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- The input and the own `Wq` piece, half A, read. -/
theorem part6 {Q : _ → sProp 𝕄} :
    iprop(Held c xS (xIn m c) ∗ At c wqA q0 kept (fqA m c))
      ⊢ iprop((Held c xS (xIn m c) ∗ At c wqA q0 kept (fqA m c) -∗ Q ⟨v193 m c, v194 c, v196 m c⟩)
        -∗ wp frame (wpE (defs₀ (F := F)) 𝒱₀ (c : Thread nD τ) none) Set.univ (k0_part6 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 v128 (v129 c) k0_pay22 k0_pay23 k0_pay24) Q) := by
  rw [k0_part6_eq_skeleton]; unfold k0_part6_skel
  simp only [Prog.lift, Prog.bind_op, Prog.bind_ret, Prog.pure_eq_ret]
  iintro ⟨Hx, Hqa0⟩ HQ
  iapply (wp_read c xS _ (xIn m c) (rdX m c) rfl) $$ Hx; iintro Hx
  iapply (wp_rdQA m c 0 (by decide)) $$ Hqa0; iintro Hqa0
  unfold v193 v194 v196
  rw [wp_ret]; imodintro
  iapply HQ
  isplitl [Hx] <;> iassumption

/-- Part 7: the loads and waits among its arithmetic. -/
theorem part7 {Q : _ → sProp 𝕄} :
    iprop(At c woA o0 kept (foA m c) ∗ Held c kM (kRot m c))
      ⊢ iprop((At c woA o0 kept (foA m c) ∗ Held c kM (kRot m c) -∗ Q ⟨v198 m c, v228 m c, v229 m c⟩)
        -∗ wp frame (wpE (defs₀ (F := F)) 𝒱₀ (c : Thread nD τ) none) Set.univ (k0_part7 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v193 m c) (v194 c) (v196 m c)) Q) := by
  rw [k0_part7_eq_skeleton]; unfold k0_part7_skel
  simp only [Prog.lift, Prog.bind_op, Prog.bind_ret, Prog.pure_eq_ret]
  iintro ⟨Hoa0, Hk⟩ HQ
  iapply (wp_rdOA m c 0 (by decide)) $$ Hoa0; iintro Hoa0
  iapply (wp_rdK m c 0 0 (by decide)) $$ Hk; iintro Hk
  iapply (wp_rdK m c 0 1 (by decide)) $$ Hk; iintro Hk
  iapply (wp_rdK m c 1 0 (by decide)) $$ Hk; iintro Hk
  iapply (wp_rdK m c 1 1 (by decide)) $$ Hk; iintro Hk
  unfold v198 v228 v229
  rw [wp_ret]; imodintro
  iapply HQ
  isplitl [Hoa0] <;> iassumption

/-- Part 8: the loads and waits among its arithmetic. -/
theorem part8 {Q : _ → sProp 𝕄} :
    iprop(Held c vM (vRot m c))
      ⊢ iprop((Held c vM (vRot m c) -∗ Q ⟨v251 m c, v264 m c⟩)
        -∗ wp frame (wpE (defs₀ (F := F)) 𝒱₀ (c : Thread nD τ) none) Set.univ (k0_part8 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v198 m c) (v228 m c) (v229 m c)) Q) := by
  rw [k0_part8_eq_skeleton]; unfold k0_part8_skel
  simp only [Prog.lift, Prog.bind_op, Prog.bind_ret, Prog.pure_eq_ret]
  iintro Hv HQ
  iapply (wp_rdV m c 0 0 (by decide)) $$ Hv; iintro Hv
  iapply (wp_rdV m c 0 1 (by decide)) $$ Hv; iintro Hv
  iapply (wp_rdV m c 1 0 (by decide)) $$ Hv; iintro Hv
  iapply (wp_rdV m c 1 1 (by decide)) $$ Hv; iintro Hv
  unfold v251 v264
  rw [wp_ret]; imodintro
  iapply HQ
  iexact Hv

/-- Part 9: the loads and waits among its arithmetic. -/
theorem part9 {Q : _ → sProp 𝕄} :
    iprop(At c wqB q0 kept (fqB m c) ∗ At c woB o0 kept (foB m c) ∗ Held c kM (kRot m c))
      ⊢ iprop((At c wqB q0 kept (fqB m c) ∗ At c woB o0 kept (foB m c) ∗ Held c kM (kRot m c) -∗ Q ⟨v268 m c, v296 m c, (v297 (F := F))⟩)
        -∗ wp frame (wpE (defs₀ (F := F)) 𝒱₀ (c : Thread nD τ) none) Set.univ (k0_part9 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v193 m c)) Q) := by
  rw [k0_part9_eq_skeleton]; unfold k0_part9_skel
  simp only [Prog.lift, Prog.bind_op, Prog.bind_ret, Prog.pure_eq_ret]
  iintro ⟨Hqb0, Hob0, Hk⟩ HQ
  iapply (wp_rdQB m c 0 (by decide)) $$ Hqb0; iintro Hqb0
  iapply (wp_rdOB m c 0 (by decide)) $$ Hob0; iintro Hob0
  iapply (wp_rdK m c 0 2 (by decide)) $$ Hk; iintro Hk
  iapply (wp_rdK m c 0 3 (by decide)) $$ Hk; iintro Hk
  iapply (wp_rdK m c 1 2 (by decide)) $$ Hk; iintro Hk
  iapply (wp_rdK m c 1 3 (by decide)) $$ Hk; iintro Hk
  unfold v268 v296 v297
  rw [wp_ret]; imodintro
  iapply HQ
  isplitl [Hqb0]; · iexact Hqb0
  isplitl [Hob0] <;> iassumption

/-- Part 10: the loads and waits among its arithmetic. -/
theorem part10 {Q : _ → sProp 𝕄} :
    iprop(Held c vM (vRot m c))
      ⊢ iprop((Held c vM (vRot m c) -∗ Q ⟨v321 m c, v333 m c, (constant S128x512 .f32 0x00000000#32)⟩)
        -∗ wp frame (wpE (defs₀ (F := F)) 𝒱₀ (c : Thread nD τ) none) Set.univ (k0_part10 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v268 m c) (v296 m c) (v297 (F := F))) Q) := by
  rw [k0_part10_eq_skeleton]; unfold k0_part10_skel
  simp only [Prog.lift, Prog.bind_op, Prog.bind_ret, Prog.pure_eq_ret]
  iintro Hv HQ
  iapply (wp_rdV m c 0 2 (by decide)) $$ Hv; iintro Hv
  iapply (wp_rdV m c 0 3 (by decide)) $$ Hv; iintro Hv
  iapply (wp_rdV m c 1 2 (by decide)) $$ Hv; iintro Hv
  iapply (wp_rdV m c 1 3 (by decide)) $$ Hv; iintro Hv
  unfold v321 v333
  rw [wp_ret]; imodintro
  iapply HQ
  iexact Hv

/-- The wait for the first copy, and the copy that passes it on. -/
theorem part11 {Q : _ → sProp 𝕄} :
    iprop(records m K ∗ Owing c (dues c [8, 9, 10, 11]) ∗ awaits c 0 ∗ mayCopy c 8 ∗ room (dst c 8) 8)
      ⊢ iprop((Owing c (dues c [9, 10, 11]) ∗ recvDone c 0 ∗ At c wqA q1 kept (fqA m c) ∗ sent c 8 -∗ Q ⟨v335 m c, v336 m c⟩)
        -∗ wp frame (wpE (defs₀ (F := F)) 𝒱₀ (c : Thread nD τ) none) Set.univ (k0_part11 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v7 c) (v251 m c) (v264 m c) (v268 m c) (v321 m c) (v333 m c) (constant S128x512 .f32 0x00000000#32)) Q) := by
  rw [k0_part11_eq_skeleton]; unfold k0_part11_skel
  simp only [Prog.lift, Prog.bind_op, Prog.bind_ret, Prog.pure_eq_ret]
  iintro ⟨#HR, HO, Ha0, Hm8, Hr8⟩ HQ
  iapply (wp_await m K c 0 [8, 9, 10, 11] 2 (by decide) (by decide) rfl (creditQ _)) $$ [HO Ha0]
  · isplitr; · iexact HR
    isplitl [HO] <;> iassumption
  iintro ⟨HO, Hz0, Hp0⟩
  ihave Hqa1 := (show recvPay m c 0 ⊢ At c wqA q1 fullShare (fqA m c) from BI.Entails.refl _) $$ Hp0
  ihave Hqa1 := (At_lend c wqA q1 (fqA m c)).1 $$ Hqa1
  icases Hqa1 with ⟨Hs8, Hqa1⟩
  iapply (wp_copy m K c _ 8 [9, 10, 11] (dev11_eq c) (s' := S512x128) (M := wqA) (r := q1) (r' := q3) (q := lent) (fun d => fqA m d) rfl rfl (creditQ _) rfl (fun _ => rfl) (fun _ => rfl)
    (fun fd => moved wqA _ _ _ _ _ fd fun y => move_fqA m c 8 y)) $$ [HO Hm8 Hr8 Hs8]
  · isplitr; · iexact HR
    isplitl [HO]; · iexact HO
    isplitl [Hm8]; · iexact Hm8
    isplitl [Hr8] <;> iassumption
  iintro ⟨HO, Hc8⟩
  unfold v335 v336
  rw [wp_ret]; imodintro
  iapply HQ
  isplitl [HO]; · iexact HO
  isplitl [Hz0]; · iexact Hz0
  isplitl [Hqa1] <;> iassumption

/-- Waits and the copy that passes on. -/
theorem part12 {Q : _ → sProp 𝕄} :
    iprop(records m K ∗ Owing c (dues c [9, 10, 11]) ∗ awaits c 1 ∗ mayCopy c 9 ∗ room (dst c 9) 9 ∗ awaits c 2)
      ⊢ iprop((Owing c (dues c [10, 11]) ∗ recvDone c 1 ∗ At c woA o1 kept (foA m c) ∗ sent c 9 ∗ recvDone c 2 ∗ At c wqB q2 kept (fqB m c) ∗ At c wqB q2 lent (fqB m c) -∗ Q ⟨⟩)
        -∗ wp frame (wpE (defs₀ (F := F)) 𝒱₀ (c : Thread nD τ) none) Set.univ (k0_part12 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v5 c) (v7 c)) Q) := by
  rw [k0_part12_eq_skeleton]; unfold k0_part12_skel
  simp only [Prog.lift, Prog.bind_op, Prog.bind_ret, Prog.pure_eq_ret]
  iintro ⟨#HR, HO, Ha1, Hm9, Hr9, Ha2⟩ HQ
  iapply (wp_await m K c 1 [9, 10, 11] 2 (by decide) (by decide) rfl (creditO _)) $$ [HO Ha1]
  · isplitr; · iexact HR
    isplitl [HO] <;> iassumption
  iintro ⟨HO, Hz1, Hp1⟩
  ihave Hoa1 := (show recvPay m c 1 ⊢ At c woA o1 fullShare (foA m c) from BI.Entails.refl _) $$ Hp1
  ihave Hoa1 := (At_lend c woA o1 (foA m c)).1 $$ Hoa1
  icases Hoa1 with ⟨Hs9, Hoa1⟩
  iapply (wp_copy m K c _ 9 [10, 11] (dev12_eq c) (s' := S128x512) (M := woA) (r := o1) (r' := o3) (q := lent) (fun d => foA m d) rfl rfl (creditO _) rfl (fun _ => rfl) (fun _ => rfl)
    (fun fd => moved woA _ _ _ _ _ fd fun y => move_foA m c 9 y)) $$ [HO Hm9 Hr9 Hs9]
  · isplitr; · iexact HR
    isplitl [HO]; · iexact HO
    isplitl [Hm9]; · iexact Hm9
    isplitl [Hr9] <;> iassumption
  iintro ⟨HO, Hc9⟩
  iapply (wp_await m K c 2 [10, 11] 2 (by decide) (by decide) rfl (creditQ _)) $$ [HO Ha2]
  · isplitr; · iexact HR
    isplitl [HO] <;> iassumption
  iintro ⟨HO, Hz2, Hp2⟩
  ihave Hqb2 := (show recvPay m c 2 ⊢ At c wqB q2 fullShare (fqB m c) from BI.Entails.refl _) $$ Hp2
  ihave Hqb2 := (At_lend c wqB q2 (fqB m c)).1 $$ Hqb2
  icases Hqb2 with ⟨Hs10, Hqb2⟩
  rw [wp_ret]; imodintro
  iapply HQ
  isplitl [HO]; · iexact HO
  isplitl [Hz1]; · iexact Hz1
  isplitl [Hoa1]; · iexact Hoa1
  isplitl [Hc9]; · iexact Hc9
  isplitl [Hz2]; · iexact Hz2
  isplitl [Hqb2] <;> iassumption

/-- Waits, the copies that pass on, and the left neighbour's half A read. -/
theorem part13 {Q : _ → sProp 𝕄} :
    iprop(records m K ∗ Owing c (dues c [10, 11]) ∗ mayCopy c 10 ∗ room (dst c 10) 10 ∗ At c wqB q2 lent (fqB m c) ∗ awaits c 3 ∗ mayCopy c 11 ∗ room (dst c 11) 11 ∗ At c wqA q1 kept (fqA m c) ∗ At c woA o1 kept (foA m c))
      ⊢ iprop((Owing c (dues c []) ∗ sent c 10 ∗ recvDone c 3 ∗ At c woB o2 kept (foB m c) ∗ sent c 11 ∗ At c wqA q1 kept (fqA m c) ∗ At c woA o1 kept (foA m c) -∗ Q ⟨v412 m c, v413 m c, v415 m c⟩)
        -∗ wp frame (wpE (defs₀ (F := F)) 𝒱₀ (c : Thread nD τ) none) Set.univ (k0_part13 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 c (v5 c) (v193 m c)) Q) := by
  rw [k0_part13_eq_skeleton]; unfold k0_part13_skel
  simp only [Prog.lift, Prog.bind_op, Prog.bind_ret, Prog.pure_eq_ret]
  iintro ⟨#HR, HO, Hm10, Hr10, Hs10, Ha3, Hm11, Hr11, Hqa1, Hoa1⟩ HQ
  iapply (wp_copy m K c _ 10 [11] (dev13_eq c) (s' := S512x128) (M := wqB) (r := q2) (r' := q3) (q := lent) (fun d => fqB m d) rfl rfl (creditQ _) rfl (fun _ => rfl) (fun _ => rfl)
    (fun fd => moved wqB _ _ _ _ _ fd fun y => move_fqB m c 10 y)) $$ [HO Hm10 Hr10 Hs10]
  · isplitr; · iexact HR
    isplitl [HO]; · iexact HO
    isplitl [Hm10]; · iexact Hm10
    isplitl [Hr10] <;> iassumption
  iintro ⟨HO, Hc10⟩
  iapply (wp_await m K c 3 [11] 2 (by decide) (by decide) rfl (creditO _)) $$ [HO Ha3]
  · isplitr; · iexact HR
    isplitl [HO] <;> iassumption
  iintro ⟨HO, Hz3, Hp3⟩
  ihave Hob2 := (show recvPay m c 3 ⊢ At c woB o2 fullShare (foB m c) from BI.Entails.refl _) $$ Hp3
  ihave Hob2 := (At_lend c woB o2 (foB m c)).1 $$ Hob2
  icases Hob2 with ⟨Hs11, Hob2⟩
  iapply (wp_copy m K c _ 11 [] (dev14_eq c) (s' := S128x512) (M := woB) (r := o2) (r' := o3) (q := lent) (fun d => foB m d) rfl rfl (creditO _) rfl (fun _ => rfl) (fun _ => rfl)
    (fun fd => moved woB _ _ _ _ _ fd fun y => move_foB m c 11 y)) $$ [HO Hm11 Hr11 Hs11]
  · isplitr; · iexact HR
    isplitl [HO]; · iexact HO
    isplitl [Hm11]; · iexact Hm11
    isplitl [Hr11] <;> iassumption
  iintro ⟨HO, Hc11⟩
  iapply (wp_rdQA m c 1 (by decide)) $$ Hqa1; iintro Hqa1
  iapply (wp_rdOA m c 1 (by decide)) $$ Hoa1; iintro Hoa1
  unfold v412 v413 v415
  rw [wp_ret]; imodintro
  iapply HQ
  isplitl [HO]; · iexact HO
  isplitl [Hc10]; · iexact Hc10
  isplitl [Hz3]; · iexact Hz3
  isplitl [Hob2]; · iexact Hob2
  isplitl [Hc11]; · iexact Hc11
  isplitl [Hqa1] <;> iassumption

/-- Part 14: the loads and waits among its arithmetic. -/
theorem part14 {Q : _ → sProp 𝕄} :
    iprop(Held c kM (kRot m c))
      ⊢ iprop((Held c kM (kRot m c) -∗ Q ⟨v452 m c, v453 m c⟩)
        -∗ wp frame (wpE (defs₀ (F := F)) 𝒱₀ (c : Thread nD τ) none) Set.univ (k0_part14 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v413 m c) (v415 m c)) Q) := by
  rw [k0_part14_eq_skeleton]; unfold k0_part14_skel
  simp only [Prog.lift, Prog.bind_op, Prog.bind_ret, Prog.pure_eq_ret]
  iintro Hk HQ
  iapply (wp_rdK m c 0 12 (by decide)) $$ Hk; iintro Hk
  iapply (wp_rdK m c 0 13 (by decide)) $$ Hk; iintro Hk
  iapply (wp_rdK m c 1 12 (by decide)) $$ Hk; iintro Hk
  iapply (wp_rdK m c 1 13 (by decide)) $$ Hk; iintro Hk
  unfold v452 v453
  rw [wp_ret]; imodintro
  iapply HQ
  iexact Hk

/-- Part 15: the loads and waits among its arithmetic. -/
theorem part15 {Q : _ → sProp 𝕄} :
    iprop(Held c vM (vRot m c) ∗ At c wqB q2 kept (fqB m c) ∗ At c woB o2 kept (foB m c))
      ⊢ iprop((Held c vM (vRot m c) ∗ At c wqB q2 kept (fqB m c) ∗ At c woB o2 kept (foB m c) -∗ Q ⟨v479 m c, v480 m c, v484 m c, v485 m c⟩)
        -∗ wp frame (wpE (defs₀ (F := F)) 𝒱₀ (c : Thread nD τ) none) Set.univ (k0_part15 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v193 m c) (v335 m c) (v336 m c) (v412 m c) (v452 m c) (v453 m c)) Q) := by
  rw [k0_part15_eq_skeleton]; unfold k0_part15_skel
  simp only [Prog.lift, Prog.bind_op, Prog.bind_ret, Prog.pure_eq_ret]
  iintro ⟨Hv, Hqb2, Hob2⟩ HQ
  iapply (wp_rdV m c 0 12 (by decide)) $$ Hv; iintro Hv
  iapply (wp_rdV m c 0 13 (by decide)) $$ Hv; iintro Hv
  iapply (wp_rdV m c 1 12 (by decide)) $$ Hv; iintro Hv
  iapply (wp_rdV m c 1 13 (by decide)) $$ Hv; iintro Hv
  iapply (wp_rdQB m c 2 (by decide)) $$ Hqb2; iintro Hqb2
  iapply (wp_rdOB m c 2 (by decide)) $$ Hob2; iintro Hob2
  unfold v479 v480 v484 v485
  rw [wp_ret]; imodintro
  iapply HQ
  isplitl [Hv]; · iexact Hv
  isplitl [Hqb2] <;> iassumption

/-- Part 16: the loads and waits among its arithmetic. -/
theorem part16 {Q : _ → sProp 𝕄} :
    iprop(Held c kM (kRot m c))
      ⊢ iprop((Held c kM (kRot m c) -∗ Q ⟨v519 m c, v521 m c⟩)
        -∗ wp frame (wpE (defs₀ (F := F)) 𝒱₀ (c : Thread nD τ) none) Set.univ (k0_part16 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v485 m c)) Q) := by
  rw [k0_part16_eq_skeleton]; unfold k0_part16_skel
  simp only [Prog.lift, Prog.bind_op, Prog.bind_ret, Prog.pure_eq_ret]
  iintro Hk HQ
  iapply (wp_rdK m c 0 6 (by decide)) $$ Hk; iintro Hk
  iapply (wp_rdK m c 0 7 (by decide)) $$ Hk; iintro Hk
  iapply (wp_rdK m c 1 6 (by decide)) $$ Hk; iintro Hk
  iapply (wp_rdK m c 1 7 (by decide)) $$ Hk; iintro Hk
  unfold v519 v521
  rw [wp_ret]; imodintro
  iapply HQ
  iexact Hk

/-- Part 17: the loads and waits among its arithmetic. -/
theorem part17 {Q : _ → sProp 𝕄} :
    iprop(Held c vM (vRot m c))
      ⊢ iprop((Held c vM (vRot m c) -∗ Q ⟨v551 m c, v552 m c, v553 c, 0#32⟩)
        -∗ wp frame (wpE (defs₀ (F := F)) 𝒱₀ (c : Thread nD τ) none) Set.univ (k0_part17 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v7 c) (v479 m c) (v480 m c) (v484 m c) (v519 m c) (v521 m c)) Q) := by
  rw [k0_part17_eq_skeleton]; unfold k0_part17_skel
  simp only [Prog.lift, Prog.bind_op, Prog.bind_ret, Prog.pure_eq_ret]
  iintro Hv HQ
  iapply (wp_rdV m c 0 6 (by decide)) $$ Hv; iintro Hv
  iapply (wp_rdV m c 0 7 (by decide)) $$ Hv; iintro Hv
  iapply (wp_rdV m c 1 6 (by decide)) $$ Hv; iintro Hv
  iapply (wp_rdV m c 1 7 (by decide)) $$ Hv; iintro Hv
  unfold v551 v552 v553
  rw [wp_ret]; imodintro
  iapply HQ
  iexact Hv

end Cert.RingAttn

end
-- ==== Proof.PartsC.lean ====
/-
Parts eighteen to thirty-one of the program: the remaining blocks, the output stored, and the waits for the copies to have left.
-/
module

public import proofs.«01_k».proof.Proof.PartsA

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- An element of a batch entry's rows, inside them. -/
theorem low_out (b : ℕ) (hb : ∀ a, (![b, 0, 0] : Fin 3 → ℕ) a + S1x128x512.size a ≤ S2x128x512.size a) (y : S1x128x512.Idx) :
    (fun | 0 => (0 : Fin 1) | 1 => ((Rect.unit (s := S2x128x512) ![b, 0, 0] S1x128x512.size hb).emb y 1 : Fin 128) | 2 => ((Rect.unit (s := S2x128x512) ![b, 0, 0] S1x128x512.size hb).emb y 2 : Fin 512) : S1x128x512.Idx) = y := by
  funext a
  match a with
  | 0 => exact Fin.ext (by show 0 = (y 0).val; have h : (y 0).val < 1 := (y 0).isLt; omega)
  | 1 => exact Fin.ext (by show 0 + 1 * (y 1).val = (y 1).val; omega)
  | 2 => exact Fin.ext (by show 0 + 1 * (y 2).val = (y 2).val; omega)

/-- The two stores of the output leave its rows. -/
theorem out_two (fo : Buf (Elt F) (oS.view.loc (c : Thread nD τ))) :
    (oS.access (Rect.unit (s := S2x128x512) ![1, 0, 0] S1x128x512.size inb_S2x128x512_S1x128x512_1_0_0)).write (Elt F)
      ((oS.access (Rect.unit (s := S2x128x512) ![0, 0, 0] S1x128x512.size inb_S2x128x512_S1x128x512_0_0_0)).write (Elt F) fo
        (k0_pay90 (v815 m c) (v836 m c) (v876 m c) (v877 m c) (rdV m c 0 10) (rdV m c 0 11)) Finset.univ)
      (k0_pay91 (v816 m c) (v836 m c) (v876 m c) (rdV m c 1 10) (rdV m c 1 11)) Finset.univ = outAt m c := by
  refine stored_two cc0_stg5_0 _ _ fo (outAt m c) _ _ (fun y => ?_) (fun y => ?_) (fun i hi => ?_)
  · rw [outAt, if_pos (by show 0 + 1 * (y 0).val = 0; have h : (y 0).val < 1 := (y 0).isLt; omega)]; exact (congrArg (k0_pay90 (v815 m c) (v836 m c) (v876 m c) (v877 m c) (rdV m c 0 10) (rdV m c 0 11)) (low_out 0 _ y)).symm
  · rw [outAt, if_neg (by show ¬ 1 + 1 * (y 0).val = 0; omega)]; exact (congrArg (k0_pay91 (v816 m c) (v836 m c) (v876 m c) (rdV m c 1 10) (rdV m c 1 11)) (low_out 1 _ y)).symm
  · rw [Rect.mem_set_unit] at hi ⊢
    have h0 : (i 0).val < 2 := (i 0).isLt
    have h1 : (i 1).val < 128 := (i 1).isLt
    have h2 : (i 2).val < 512 := (i 2).isLt
    have hi' : ¬ 1 ≤ (i 0).val := fun h => hi fun
      | 0 => ⟨h, by show (i 0).val < 1 + 1; omega⟩
      | 1 => ⟨Nat.zero_le _, by show (i 1).val < 0 + 128; omega⟩
      | 2 => ⟨Nat.zero_le _, by show (i 2).val < 0 + 512; omega⟩
    exact fun
      | 0 => ⟨Nat.zero_le _, by show (i 0).val < 0 + 1; omega⟩
      | 1 => ⟨Nat.zero_le _, by show (i 1).val < 0 + 128; omega⟩
      | 2 => ⟨Nat.zero_le _, by show (i 2).val < 0 + 512; omega⟩

/-- Part 18: the loads and waits among its arithmetic. -/
theorem part18 {Q : _ → sProp 𝕄} :
    iprop(records m K ∗ Owing c (dues c []) ∗ awaits c 4 ∗ awaits c 5 ∗ Held c kM (kRot m c))
      ⊢ iprop((Owing c (dues c []) ∗ recvDone c 4 ∗ At c wqB q1 fullShare (fqB m c) ∗ recvDone c 5 ∗ At c woB o1 fullShare (foB m c) ∗ Held c kM (kRot m c) -∗ Q ⟨v572 m c, v573 m c, v579 m c, v581 m c⟩)
        -∗ wp frame (wpE (defs₀ (F := F)) 𝒱₀ (c : Thread nD τ) none) Set.univ (k0_part18 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v7 c) (v193 m c) (v553 c) 0#32) Q) := by
  rw [k0_part18_eq_skeleton]; unfold k0_part18_skel
  simp only [Prog.lift, Prog.bind_op, Prog.bind_ret, Prog.pure_eq_ret]
  iintro ⟨#HR, HO, Ha4, Ha5, Hk⟩ HQ
  iapply (wp_await m K c 4 [] 2 (by decide) (by decide) rfl (creditQ _)) $$ [HO Ha4]
  · isplitr; · iexact HR
    isplitl [HO] <;> iassumption
  iintro ⟨HO, Hz4, Hp4⟩
  ihave Hqb1 := (show recvPay m c 4 ⊢ At c wqB q1 fullShare (fqB m c) from BI.Entails.refl _) $$ Hp4
  iapply (wp_await m K c 5 [] 2 (by decide) (by decide) rfl (creditO _)) $$ [HO Ha5]
  · isplitr; · iexact HR
    isplitl [HO] <;> iassumption
  iintro ⟨HO, Hz5, Hp5⟩
  ihave Hob1 := (show recvPay m c 5 ⊢ At c woB o1 fullShare (foB m c) from BI.Entails.refl _) $$ Hp5
  iapply (wp_rdQB m c 1 (by decide)) $$ Hqb1; iintro Hqb1
  iapply (wp_rdOB m c 1 (by decide)) $$ Hob1; iintro Hob1
  iapply (wp_rdK m c 0 14 (by decide)) $$ Hk; iintro Hk
  unfold v572 v573 v579 v581
  rw [wp_ret]; imodintro
  iapply HQ
  isplitl [HO]; · iexact HO
  isplitl [Hz4]; · iexact Hz4
  isplitl [Hqb1]; · iexact Hqb1
  isplitl [Hz5]; · iexact Hz5
  isplitl [Hob1] <;> iassumption

/-- Part 19: the loads and waits among its arithmetic. -/
theorem part19 {Q : _ → sProp 𝕄} :
    iprop(Held c kM (kRot m c) ∗ Held c vM (vRot m c))
      ⊢ iprop((Held c kM (kRot m c) ∗ Held c vM (vRot m c) -∗ Q ⟨v612 m c, v617 m c, v618 m c⟩)
        -∗ wp frame (wpE (defs₀ (F := F)) 𝒱₀ (c : Thread nD τ) none) Set.univ (k0_part19 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v573 m c) (v579 m c) (v581 m c)) Q) := by
  rw [k0_part19_eq_skeleton]; unfold k0_part19_skel
  simp only [Prog.lift, Prog.bind_op, Prog.bind_ret, Prog.pure_eq_ret]
  iintro ⟨Hk, Hv⟩ HQ
  iapply (wp_rdK m c 0 15 (by decide)) $$ Hk; iintro Hk
  iapply (wp_rdK m c 1 14 (by decide)) $$ Hk; iintro Hk
  iapply (wp_rdK m c 1 15 (by decide)) $$ Hk; iintro Hk
  iapply (wp_rdV m c 0 14 (by decide)) $$ Hv; iintro Hv
  unfold v612 v617 v618
  rw [wp_ret]; imodintro
  iapply HQ
  isplitl [Hk] <;> iassumption

/-- Part 20: the loads and waits among its arithmetic. -/
theorem part20 {Q : _ → sProp 𝕄} :
    iprop(records m K ∗ Held c vM (vRot m c) ∗ Owing c (dues c []) ∗ awaits c 6)
      ⊢ iprop((Held c vM (vRot m c) ∗ Owing c (dues c []) ∗ recvDone c 6 ∗ At c wqA q2 fullShare (fqA m c) -∗ Q ⟨v639 m c, v640 m c, 1#32⟩)
        -∗ wp frame (wpE (defs₀ (F := F)) 𝒱₀ (c : Thread nD τ) none) Set.univ (k0_part20 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v5 c) (v551 m c) (v552 m c) (v572 m c) (v612 m c) (v617 m c) (v618 m c)) Q) := by
  rw [k0_part20_eq_skeleton]; unfold k0_part20_skel
  simp only [Prog.lift, Prog.bind_op, Prog.bind_ret, Prog.pure_eq_ret]
  iintro ⟨#HR, Hv, HO, Ha6⟩ HQ
  iapply (wp_rdV m c 0 15 (by decide)) $$ Hv; iintro Hv
  iapply (wp_rdV m c 1 14 (by decide)) $$ Hv; iintro Hv
  iapply (wp_rdV m c 1 15 (by decide)) $$ Hv; iintro Hv
  iapply (wp_await m K c 6 [] 2 (by decide) (by decide) rfl (creditQ _)) $$ [HO Ha6]
  · isplitr; · iexact HR
    isplitl [HO] <;> iassumption
  iintro ⟨HO, Hz6, Hp6⟩
  ihave Hqa2 := (show recvPay m c 6 ⊢ At c wqA q2 fullShare (fqA m c) from BI.Entails.refl _) $$ Hp6
  unfold v639 v640
  rw [wp_ret]; imodintro
  iapply HQ
  isplitl [Hv]; · iexact Hv
  isplitl [HO]; · iexact HO
  isplitl [Hz6] <;> iassumption

/-- Part 21: the loads and waits among its arithmetic. -/
theorem part21 {Q : _ → sProp 𝕄} :
    iprop(records m K ∗ Owing c (dues c []) ∗ awaits c 7 ∗ At c wqA q2 fullShare (fqA m c) ∗ Held c kM (kRot m c))
      ⊢ iprop((Owing c (dues c []) ∗ recvDone c 7 ∗ At c woA o2 fullShare (foA m c) ∗ At c wqA q2 fullShare (fqA m c) ∗ Held c kM (kRot m c) -∗ Q ⟨v660 m c, v667 m c, v673 m c, v679 m c, v680 m c⟩)
        -∗ wp frame (wpE (defs₀ (F := F)) 𝒱₀ (c : Thread nD τ) none) Set.univ (k0_part21 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v5 c) (v193 m c) 1#32) Q) := by
  rw [k0_part21_eq_skeleton]; unfold k0_part21_skel
  simp only [Prog.lift, Prog.bind_op, Prog.bind_ret, Prog.pure_eq_ret]
  iintro ⟨#HR, HO, Ha7, Hqa2, Hk⟩ HQ
  iapply (wp_await m K c 7 [] 2 (by decide) (by decide) rfl (creditO _)) $$ [HO Ha7]
  · isplitr; · iexact HR
    isplitl [HO] <;> iassumption
  iintro ⟨HO, Hz7, Hp7⟩
  ihave Hoa2 := (show recvPay m c 7 ⊢ At c woA o2 fullShare (foA m c) from BI.Entails.refl _) $$ Hp7
  iapply (wp_rdQA m c 2 (by decide)) $$ Hqa2; iintro Hqa2
  iapply (wp_rdOA m c 2 (by decide)) $$ Hoa2; iintro Hoa2
  iapply (wp_rdK m c 0 4 (by decide)) $$ Hk; iintro Hk
  iapply (wp_rdK m c 0 5 (by decide)) $$ Hk; iintro Hk
  iapply (wp_rdK m c 1 4 (by decide)) $$ Hk; iintro Hk
  unfold v660 v667 v673 v679 v680
  rw [wp_ret]; imodintro
  iapply HQ
  isplitl [HO]; · iexact HO
  isplitl [Hz7]; · iexact Hz7
  isplitl [Hoa2]; · iexact Hoa2
  isplitl [Hqa2] <;> iassumption

/-- Part 22: the loads and waits among its arithmetic. -/
theorem part22 {Q : _ → sProp 𝕄} :
    iprop(Held c kM (kRot m c) ∗ Held c vM (vRot m c))
      ⊢ iprop((Held c kM (kRot m c) ∗ Held c vM (vRot m c) -∗ Q ⟨v700 m c, v713 m c, v714 m c, v716 m c⟩)
        -∗ wp frame (wpE (defs₀ (F := F)) 𝒱₀ (c : Thread nD τ) none) Set.univ (k0_part22 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v660 m c) (v667 m c) (v673 m c) (v679 m c) (v680 m c)) Q) := by
  rw [k0_part22_eq_skeleton]; unfold k0_part22_skel
  simp only [Prog.lift, Prog.bind_op, Prog.bind_ret, Prog.pure_eq_ret]
  iintro ⟨Hk, Hv⟩ HQ
  iapply (wp_rdK m c 1 5 (by decide)) $$ Hk; iintro Hk
  iapply (wp_rdV m c 0 4 (by decide)) $$ Hv; iintro Hv
  iapply (wp_rdV m c 0 5 (by decide)) $$ Hv; iintro Hv
  iapply (wp_rdV m c 1 4 (by decide)) $$ Hv; iintro Hv
  unfold v700 v713 v714 v716
  rw [wp_ret]; imodintro
  iapply HQ
  isplitl [Hk] <;> iassumption

/-- Part 23: the loads and waits among its arithmetic. -/
theorem part23 {Q : _ → sProp 𝕄} :
    iprop(records m K ∗ Held c vM (vRot m c) ∗ Owing c (dues c []) ∗ awaits c 8 ∗ awaits c 9)
      ⊢ iprop((Held c vM (vRot m c) ∗ Owing c (dues c []) ∗ recvDone c 8 ∗ At c wqA q3 fullShare (fqA m c) ∗ recvDone c 9 ∗ At c woA o3 fullShare (foA m c) -∗ Q ⟨v727 m c, v728 m c⟩)
        -∗ wp frame (wpE (defs₀ (F := F)) 𝒱₀ (c : Thread nD τ) none) Set.univ (k0_part23 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v7 c) (v639 m c) (v640 m c) (v660 m c) (v700 m c) (v713 m c) (v714 m c) (v716 m c)) Q) := by
  rw [k0_part23_eq_skeleton]; unfold k0_part23_skel
  simp only [Prog.lift, Prog.bind_op, Prog.bind_ret, Prog.pure_eq_ret]
  iintro ⟨#HR, Hv, HO, Ha8, Ha9⟩ HQ
  iapply (wp_rdV m c 1 5 (by decide)) $$ Hv; iintro Hv
  iapply (wp_await m K c 8 [] 3 (by decide) (by decide) rfl (creditQ _)) $$ [HO Ha8]
  · isplitr; · iexact HR
    isplitl [HO] <;> iassumption
  iintro ⟨HO, Hz8, Hp8⟩
  ihave Hqa3 := (show recvPay m c 8 ⊢ At c wqA q3 fullShare (fqA m c) from BI.Entails.refl _) $$ Hp8
  iapply (wp_await m K c 9 [] 3 (by decide) (by decide) rfl (creditO _)) $$ [HO Ha9]
  · isplitr; · iexact HR
    isplitl [HO] <;> iassumption
  iintro ⟨HO, Hz9, Hp9⟩
  ihave Hoa3 := (show recvPay m c 9 ⊢ At c woA o3 fullShare (foA m c) from BI.Entails.refl _) $$ Hp9
  unfold v727 v728
  rw [wp_ret]; imodintro
  iapply HQ
  isplitl [Hv]; · iexact Hv
  isplitl [HO]; · iexact HO
  isplitl [Hz8]; · iexact Hz8
  isplitl [Hqa3]; · iexact Hqa3
  isplitl [Hz9] <;> iassumption

/-- Part 24: the loads and waits among its arithmetic. -/
theorem part24 {Q : _ → sProp 𝕄} :
    iprop(At c wqA q3 fullShare (fqA m c) ∗ At c woA o3 fullShare (foA m c) ∗ Held c kM (kRot m c))
      ⊢ iprop((At c wqA q3 fullShare (fqA m c) ∗ At c woA o3 fullShare (foA m c) ∗ Held c kM (kRot m c) -∗ Q ⟨v748 m c, v778 m c⟩)
        -∗ wp frame (wpE (defs₀ (F := F)) 𝒱₀ (c : Thread nD τ) none) Set.univ (k0_part24 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v193 m c) (v194 c)) Q) := by
  rw [k0_part24_eq_skeleton]; unfold k0_part24_skel
  simp only [Prog.lift, Prog.bind_op, Prog.bind_ret, Prog.pure_eq_ret]
  iintro ⟨Hqa3, Hoa3, Hk⟩ HQ
  iapply (wp_rdQA m c 3 (by decide)) $$ Hqa3; iintro Hqa3
  iapply (wp_rdOA m c 3 (by decide)) $$ Hoa3; iintro Hoa3
  iapply (wp_rdK m c 0 8 (by decide)) $$ Hk; iintro Hk
  iapply (wp_rdK m c 0 9 (by decide)) $$ Hk; iintro Hk
  iapply (wp_rdK m c 1 8 (by decide)) $$ Hk; iintro Hk
  iapply (wp_rdK m c 1 9 (by decide)) $$ Hk; iintro Hk
  unfold v748 v778
  rw [wp_ret]; imodintro
  iapply HQ
  isplitl [Hqa3]; · iexact Hqa3
  isplitl [Hoa3] <;> iassumption

/-- Part 25: the loads and waits among its arithmetic. -/
theorem part25 {Q : _ → sProp 𝕄} :
    iprop(Held c vM (vRot m c))
      ⊢ iprop((Held c vM (vRot m c) -∗ Q ⟨v801 m c, v814 m c⟩)
        -∗ wp frame (wpE (defs₀ (F := F)) 𝒱₀ (c : Thread nD τ) none) Set.univ (k0_part25 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v748 m c) (v778 m c)) Q) := by
  rw [k0_part25_eq_skeleton]; unfold k0_part25_skel
  simp only [Prog.lift, Prog.bind_op, Prog.bind_ret, Prog.pure_eq_ret]
  iintro Hv HQ
  iapply (wp_rdV m c 0 8 (by decide)) $$ Hv; iintro Hv
  iapply (wp_rdV m c 0 9 (by decide)) $$ Hv; iintro Hv
  iapply (wp_rdV m c 1 8 (by decide)) $$ Hv; iintro Hv
  iapply (wp_rdV m c 1 9 (by decide)) $$ Hv; iintro Hv
  unfold v801 v814
  rw [wp_ret]; imodintro
  iapply HQ
  iexact Hv

/-- Part 26: the loads and waits among its arithmetic. -/
theorem part26 {Q : _ → sProp 𝕄} :
    iprop(records m K ∗ Owing c (dues c []) ∗ awaits c 10 ∗ awaits c 11 ∗ Held c kM (kRot m c))
      ⊢ iprop((Owing c (dues c []) ∗ recvDone c 10 ∗ At c wqB q3 fullShare (fqB m c) ∗ recvDone c 11 ∗ At c woB o3 fullShare (foB m c) ∗ Held c kM (kRot m c) -∗ Q ⟨v815 m c, v816 m c, v836 m c, v837 m c, v839 m c, v841 m c⟩)
        -∗ wp frame (wpE (defs₀ (F := F)) 𝒱₀ (c : Thread nD τ) none) Set.univ (k0_part26 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v5 c) (v193 m c) (v727 m c) (v728 m c) (v801 m c) (v814 m c)) Q) := by
  rw [k0_part26_eq_skeleton]; unfold k0_part26_skel
  simp only [Prog.lift, Prog.bind_op, Prog.bind_ret, Prog.pure_eq_ret]
  iintro ⟨#HR, HO, Ha10, Ha11, Hk⟩ HQ
  iapply (wp_await m K c 10 [] 3 (by decide) (by decide) rfl (creditQ _)) $$ [HO Ha10]
  · isplitr; · iexact HR
    isplitl [HO] <;> iassumption
  iintro ⟨HO, Hz10, Hp10⟩
  ihave Hqb3 := (show recvPay m c 10 ⊢ At c wqB q3 fullShare (fqB m c) from BI.Entails.refl _) $$ Hp10
  iapply (wp_await m K c 11 [] 3 (by decide) (by decide) rfl (creditO _)) $$ [HO Ha11]
  · isplitr; · iexact HR
    isplitl [HO] <;> iassumption
  iintro ⟨HO, Hz11, Hp11⟩
  ihave Hob3 := (show recvPay m c 11 ⊢ At c woB o3 fullShare (foB m c) from BI.Entails.refl _) $$ Hp11
  iapply (wp_rdQB m c 3 (by decide)) $$ Hqb3; iintro Hqb3
  iapply (wp_rdOB m c 3 (by decide)) $$ Hob3; iintro Hob3
  iapply (wp_rdK m c 0 10 (by decide)) $$ Hk; iintro Hk
  unfold v815 v816 v836 v837 v839 v841
  rw [wp_ret]; imodintro
  iapply HQ
  isplitl [HO]; · iexact HO
  isplitl [Hz10]; · iexact Hz10
  isplitl [Hqb3]; · iexact Hqb3
  isplitl [Hz11]; · iexact Hz11
  isplitl [Hob3] <;> iassumption

/-- Part 27: the loads and waits among its arithmetic. -/
theorem part27 {Q : _ → sProp 𝕄} :
    iprop(Held c kM (kRot m c))
      ⊢ iprop((Held c kM (kRot m c) -∗ Q ⟨v876 m c, v877 m c⟩)
        -∗ wp frame (wpE (defs₀ (F := F)) 𝒱₀ (c : Thread nD τ) none) Set.univ (k0_part27 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v194 c) (v837 m c) (v839 m c) (v841 m c)) Q) := by
  rw [k0_part27_eq_skeleton]; unfold k0_part27_skel
  simp only [Prog.lift, Prog.bind_op, Prog.bind_ret, Prog.pure_eq_ret]
  iintro Hk HQ
  iapply (wp_rdK m c 0 11 (by decide)) $$ Hk; iintro Hk
  iapply (wp_rdK m c 1 10 (by decide)) $$ Hk; iintro Hk
  iapply (wp_rdK m c 1 11 (by decide)) $$ Hk; iintro Hk
  unfold v876 v877
  rw [wp_ret]; imodintro
  iapply HQ
  iexact Hk

/-- The output rows stored. -/
theorem part28 (fo : Buf (Elt F) (oS.view.loc (c : Thread nD τ))) {Q : _ → sProp 𝕄} :
    iprop(Held c vM (vRot m c) ∗ Held c oS fo)
      ⊢ iprop((Held c vM (vRot m c) ∗ Held c oS (outAt m c) -∗ Q ⟨⟩)
        -∗ wp frame (wpE (defs₀ (F := F)) 𝒱₀ (c : Thread nD τ) none) Set.univ (k0_part28 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7 (v815 m c) (v816 m c) (v836 m c) (v876 m c) (v877 m c)) Q) := by
  rw [k0_part28_eq_skeleton]; unfold k0_part28_skel
  simp only [Prog.lift, Prog.bind_op, Prog.bind_ret, Prog.pure_eq_ret]
  iintro ⟨Hv, Hout⟩ HQ
  iapply (wp_rdV m c 0 10 (by decide)) $$ Hv; iintro Hv
  iapply (wp_rdV m c 0 11 (by decide)) $$ Hv; iintro Hv
  iapply (wp_rdV m c 1 10 (by decide)) $$ Hv; iintro Hv
  iapply (wp_rdV m c 1 11 (by decide)) $$ Hv; iintro Hv
  iapply (wp_box c oS (Rect.unit (s := S2x128x512) ![0, 0, 0] S1x128x512.size inb_S2x128x512_S1x128x512_0_0_0) _) $$ Hout; iintro Hout
  iapply (wp_putBox c oS (Rect.unit (s := S2x128x512) ![0, 0, 0] S1x128x512.size inb_S2x128x512_S1x128x512_0_0_0) _ (k0_pay90 _ _ _ _ _ _)) $$ Hout; iintro Hout
  iapply (wp_box c oS (Rect.unit (s := S2x128x512) ![1, 0, 0] S1x128x512.size inb_S2x128x512_S1x128x512_1_0_0) _) $$ Hout; iintro Hout
  iapply (wp_putBox c oS (Rect.unit (s := S2x128x512) ![1, 0, 0] S1x128x512.size inb_S2x128x512_S1x128x512_1_0_0) _ (k0_pay91 _ _ _ _ _)) $$ Hout; iintro Hout
  rw [out_two m c fo]
  rw [wp_ret]; imodintro
  iapply HQ
  isplitl [Hv] <;> iassumption

/-- Waits for the first three copies to have left. -/
theorem part29 {Q : _ → sProp 𝕄} :
    iprop(records m K ∗ Owing c (dues c []) ∗ sent c 0 ∗ sent c 1 ∗ sent c 2)
      ⊢ iprop((Owing c (dues c []) ∗ sentDone c 0 ∗ At c wqA q0 lent1 (fqA m c) ∗ sentDone c 1 ∗ At c woA o0 lent1 (foA m c) ∗ sentDone c 2 ∗ At c wqB q0 lent1 (fqB m c) -∗ Q ⟨⟩)
        -∗ wp frame (wpE (defs₀ (F := F)) 𝒱₀ (c : Thread nD τ) none) Set.univ (k0_part29 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) Q) := by
  rw [k0_part29_eq_skeleton]; unfold k0_part29_skel
  simp only [Prog.lift, Prog.bind_op, Prog.bind_ret, Prog.pure_eq_ret]
  iintro ⟨#HR, HO, Hc0, Hc1, Hc2⟩ HQ
  iapply (wp_awaitSent m K c 0 [] rfl (creditQ _)) $$ [HO Hc0]
  · isplitr; · iexact HR
    isplitl [HO] <;> iassumption
  iintro ⟨HO, Hy0, Hs0⟩
  ihave Hs0 := (show sendPay m c 0 ⊢ At c wqA q0 lent1 (fqA m c) from BI.Entails.refl _) $$ Hs0
  iapply (wp_awaitSent m K c 1 [] rfl (creditO _)) $$ [HO Hc1]
  · isplitr; · iexact HR
    isplitl [HO] <;> iassumption
  iintro ⟨HO, Hy1, Hs1⟩
  ihave Hs1 := (show sendPay m c 1 ⊢ At c woA o0 lent1 (foA m c) from BI.Entails.refl _) $$ Hs1
  iapply (wp_awaitSent m K c 2 [] rfl (creditQ _)) $$ [HO Hc2]
  · isplitr; · iexact HR
    isplitl [HO] <;> iassumption
  iintro ⟨HO, Hy2, Hs2⟩
  ihave Hs2 := (show sendPay m c 2 ⊢ At c wqB q0 lent1 (fqB m c) from BI.Entails.refl _) $$ Hs2
  rw [wp_ret]; imodintro
  iapply HQ
  isplitl [HO]; · iexact HO
  isplitl [Hy0]; · iexact Hy0
  isplitl [Hs0]; · iexact Hs0
  isplitl [Hy1]; · iexact Hy1
  isplitl [Hs1]; · iexact Hs1
  isplitl [Hy2] <;> iassumption

/-- Waits for four more. -/
theorem part30 {Q : _ → sProp 𝕄} :
    iprop(records m K ∗ Owing c (dues c []) ∗ sent c 3 ∗ sent c 4 ∗ sent c 5 ∗ sent c 6)
      ⊢ iprop((Owing c (dues c []) ∗ sentDone c 3 ∗ At c woB o0 lent1 (foB m c) ∗ sentDone c 4 ∗ At c wqB q0 lent2 (fqB m c) ∗ sentDone c 5 ∗ At c woB o0 lent2 (foB m c) ∗ sentDone c 6 ∗ At c wqA q0 lent2 (fqA m c) -∗ Q ⟨⟩)
        -∗ wp frame (wpE (defs₀ (F := F)) 𝒱₀ (c : Thread nD τ) none) Set.univ (k0_part30 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) Q) := by
  rw [k0_part30_eq_skeleton]; unfold k0_part30_skel
  simp only [Prog.lift, Prog.bind_op, Prog.bind_ret, Prog.pure_eq_ret]
  iintro ⟨#HR, HO, Hc3, Hc4, Hc5, Hc6⟩ HQ
  iapply (wp_awaitSent m K c 3 [] rfl (creditO _)) $$ [HO Hc3]
  · isplitr; · iexact HR
    isplitl [HO] <;> iassumption
  iintro ⟨HO, Hy3, Hs3⟩
  ihave Hs3 := (show sendPay m c 3 ⊢ At c woB o0 lent1 (foB m c) from BI.Entails.refl _) $$ Hs3
  iapply (wp_awaitSent m K c 4 [] rfl (creditQ _)) $$ [HO Hc4]
  · isplitr; · iexact HR
    isplitl [HO] <;> iassumption
  iintro ⟨HO, Hy4, Hs4⟩
  ihave Hs4 := (show sendPay m c 4 ⊢ At c wqB q0 lent2 (fqB m c) from BI.Entails.refl _) $$ Hs4
  iapply (wp_awaitSent m K c 5 [] rfl (creditO _)) $$ [HO Hc5]
  · isplitr; · iexact HR
    isplitl [HO] <;> iassumption
  iintro ⟨HO, Hy5, Hs5⟩
  ihave Hs5 := (show sendPay m c 5 ⊢ At c woB o0 lent2 (foB m c) from BI.Entails.refl _) $$ Hs5
  iapply (wp_awaitSent m K c 6 [] rfl (creditQ _)) $$ [HO Hc6]
  · isplitr; · iexact HR
    isplitl [HO] <;> iassumption
  iintro ⟨HO, Hy6, Hs6⟩
  ihave Hs6 := (show sendPay m c 6 ⊢ At c wqA q0 lent2 (fqA m c) from BI.Entails.refl _) $$ Hs6
  rw [wp_ret]; imodintro
  iapply HQ
  isplitl [HO]; · iexact HO
  isplitl [Hy3]; · iexact Hy3
  isplitl [Hs3]; · iexact Hs3
  isplitl [Hy4]; · iexact Hy4
  isplitl [Hs4]; · iexact Hs4
  isplitl [Hy5]; · iexact Hy5
  isplitl [Hs5]; · iexact Hs5
  isplitl [Hy6] <;> iassumption

/-- Waits for four more. -/
theorem part31 {Q : _ → sProp 𝕄} :
    iprop(records m K ∗ Owing c (dues c []) ∗ sent c 7 ∗ sent c 8 ∗ sent c 9 ∗ sent c 10)
      ⊢ iprop((Owing c (dues c []) ∗ sentDone c 7 ∗ At c woA o0 lent2 (foA m c) ∗ sentDone c 8 ∗ At c wqA q1 lent (fqA m c) ∗ sentDone c 9 ∗ At c woA o1 lent (foA m c) ∗ sentDone c 10 ∗ At c wqB q2 lent (fqB m c) -∗ Q ⟨⟩)
        -∗ wp frame (wpE (defs₀ (F := F)) 𝒱₀ (c : Thread nD τ) none) Set.univ (k0_part31 xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) Q) := by
  rw [k0_part31_eq_skeleton]; unfold k0_part31_skel
  simp only [Prog.lift, Prog.bind_op, Prog.bind_ret, Prog.pure_eq_ret]
  iintro ⟨#HR, HO, Hc7, Hc8, Hc9, Hc10⟩ HQ
  iapply (wp_awaitSent m K c 7 [] rfl (creditO _)) $$ [HO Hc7]
  · isplitr; · iexact HR
    isplitl [HO] <;> iassumption
  iintro ⟨HO, Hy7, Hs7⟩
  ihave Hs7 := (show sendPay m c 7 ⊢ At c woA o0 lent2 (foA m c) from BI.Entails.refl _) $$ Hs7
  iapply (wp_awaitSent m K c 8 [] rfl (creditQ _)) $$ [HO Hc8]
  · isplitr; · iexact HR
    isplitl [HO] <;> iassumption
  iintro ⟨HO, Hy8, Hs8⟩
  ihave Hs8 := (show sendPay m c 8 ⊢ At c wqA q1 lent (fqA m c) from BI.Entails.refl _) $$ Hs8
  iapply (wp_awaitSent m K c 9 [] rfl (creditO _)) $$ [HO Hc9]
  · isplitr; · iexact HR
    isplitl [HO] <;> iassumption
  iintro ⟨HO, Hy9, Hs9⟩
  ihave Hs9 := (show sendPay m c 9 ⊢ At c woA o1 lent (foA m c) from BI.Entails.refl _) $$ Hs9
  iapply (wp_awaitSent m K c 10 [] rfl (creditQ _)) $$ [HO Hc10]
  · isplitr; · iexact HR
    isplitl [HO] <;> iassumption
  iintro ⟨HO, Hy10, Hs10⟩
  ihave Hs10 := (show sendPay m c 10 ⊢ At c wqB q2 lent (fqB m c) from BI.Entails.refl _) $$ Hs10
  rw [wp_ret]; imodintro
  iapply HQ
  isplitl [HO]; · iexact HO
  isplitl [Hy7]; · iexact Hy7
  isplitl [Hs7]; · iexact Hs7
  isplitl [Hy8]; · iexact Hy8
  isplitl [Hs8]; · iexact Hs8
  isplitl [Hy9]; · iexact Hy9
  isplitl [Hs9]; · iexact Hs9
  isplitl [Hy10] <;> iassumption

end Cert.RingAttn

end
-- ==== Proof.Body.lean ====
/-
The kernel's body on one device: its parts one after the other.
-/
module

public import proofs.«01_k».proof.Proof.PartsB
public import proofs.«01_k».proof.Proof.PartsC

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- One of a kind for each of the twelve copies. -/
def each (P : Fin 12 → sProp 𝕄) : sProp 𝕄 := iprop(P 0 ∗ P 1 ∗ P 2 ∗ P 3 ∗ P 4 ∗ P 5 ∗ P 6 ∗ P 7 ∗ P 8 ∗ P 9 ∗ P 10 ∗ P 11)

omit [FloatOps F] in
/-- A slot holding anything is room for the copy that fills it. -/
theorem room_of (i : Fin 12) {s : Shape} {M : Memref sig .tc .vmem s .bf16} {r : Rect s} (f : Buf (Elt F) (M.view.loc (c : Thread nD τ)))
    (h : (room c i : sProp 𝕄) = iprop(∃ f, At c M r fullShare f)) : (At c M r fullShare f : sProp 𝕄) ⊢ room c i := by
  rw [h]; iintro H; iexists f; iexact H

/-- What a device brings to the kernel's ghost state: the records, what it owes, its part in the barrier, and the rights to make its
    copies and to wait for its neighbours'. -/
def bring : sProp 𝕄 :=
  iprop(records m K ∗ Owing c (O₀ c) ∗ dutyTok ER (barCell (prv c)) 0 true ∗ dutyTok ER (barCell (nxt c)) 0 false
    ∗ cred (tallyAt (barCell c) () 2) ∗ atPos ER (barCell c) 0 ∅ 0 ∗ each (mayCopy c) ∗ each (awaits c))
/-- What it goes away with: nothing owed, and every cell back at zero. -/
def away : sProp 𝕄 := iprop(Owing c (dues c []) ∗ semVal (barCell c) 0 ∗ each (sentDone (F := F) c) ∗ each (recvDone c))

/-- The body of the kernel on device `c`: from the inputs, and scratch buffers holding anything, to the result's rows in the
    output, and scratch buffers holding the pieces of all devices and the keys and values turned. -/
theorem body_run (fo : Buf (Elt F) (oS.view.loc (c : Thread nD τ))) (f6 : Buf (Elt F) (wqA.view.loc (c : Thread nD τ))) (f7 : Buf (Elt F) (woA.view.loc (c : Thread nD τ)))
    (f8 : Buf (Elt F) (wqB.view.loc (c : Thread nD τ))) (f9 : Buf (Elt F) (woB.view.loc (c : Thread nD τ))) (fk : Buf (Elt F) (kM.view.loc (c : Thread nD τ))) (fv : Buf (Elt F) (vM.view.loc (c : Thread nD τ)))
    {Q : PUnit → sProp 𝕄} :
    iprop(bring m K c ∗ (Held c xS (xIn m c) ∗ Held c wqS (wqIn m c) ∗ Held c kS (kIn m c) ∗ Held c vS (vIn m c) ∗ Held c woS (woIn m c) ∗ Held c oS fo)
        ∗ (Held c wqA f6 ∗ Held c woA f7 ∗ Held c wqB f8 ∗ Held c woB f9 ∗ Held c kM fk ∗ Held c vM fv))
      ⊢ iprop((away c ∗ (Held c xS (xIn m c) ∗ Held c wqS (wqIn m c) ∗ Held c kS (kIn m c) ∗ Held c vS (vIn m c) ∗ Held c woS (woIn m c) ∗ Held c oS (outAt m c))
          ∗ (Held c wqA (fqA m c) ∗ Held c woA (foA m c) ∗ Held c wqB (fqB m c) ∗ Held c woB (foB m c) ∗ Held c kM (kRot m c) ∗ Held c vM (vRot m c)) -∗ Q ⟨⟩)
        -∗ wp frame (wpE (defs₀ (F := F)) 𝒱₀ (c : Thread nD τ) none) Set.univ (cc0_body xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) Q) := by
  rw [cc0_body_eq_skeleton]; unfold cc0_body_skel bring each
  simp only [Prog.lift, Prog.bind_ret, Prog.pure_eq_ret, wp_bind]
  iintro ⟨⟨#HR, HO, Htl, Htr, Hcb, Hpb, ⟨Hm0, Hm1, Hm2, Hm3, Hm4, Hm5, Hm6, Hm7, Hm8, Hm9, Hm10, Hm11⟩, ⟨Ha0, Ha1, Ha2, Ha3, Ha4, Ha5, Ha6, Ha7, Ha8, Ha9, Ha10, Ha11⟩⟩, ⟨Hx, Hwq, HkS, HvS, Hwo, Hout⟩, ⟨Hqa, Hoa, Hqb, Hob, HkM, HvM⟩⟩ HQ
  ihave Hqa := (show Held c wqA f6 ⊢ _ from Entails.of_eq (q_slots wqA c f6)) $$ Hqa
  icases Hqa with ⟨Hqa0, Hqa1, Hqa2, Hqa3⟩
  ihave Hoa := (show Held c woA f7 ⊢ _ from Entails.of_eq (o_slots woA c f7)) $$ Hoa
  icases Hoa with ⟨Hoa0, Hoa1, Hoa2, Hoa3⟩
  ihave Hqb := (show Held c wqB f8 ⊢ _ from Entails.of_eq (q_slots wqB c f8)) $$ Hqb
  icases Hqb with ⟨Hqb0, Hqb1, Hqb2, Hqb3⟩
  ihave Hob := (show Held c woB f9 ⊢ _ from Entails.of_eq (o_slots woB c f9)) $$ Hob
  icases Hob with ⟨Hob0, Hob1, Hob2, Hob3⟩
  ihave Hqa1 := (room_of c 0 (M := wqA) (r := q1) f6 rfl) $$ Hqa1
  ihave Hoa1 := (room_of c 1 (M := woA) (r := o1) f7 rfl) $$ Hoa1
  ihave Hqb1 := (room_of c 4 (M := wqB) (r := q1) f8 rfl) $$ Hqb1
  ihave Hob1 := (room_of c 5 (M := woB) (r := o1) f9 rfl) $$ Hob1
  ihave Hqa3 := (room_of c 8 (M := wqA) (r := q3) f6 rfl) $$ Hqa3
  ihave Hoa3 := (room_of c 9 (M := woA) (r := o3) f7 rfl) $$ Hoa3
  ihave HrR : roomR c $$ [Hqa1 Hoa1 Hqb1 Hob1 Hqa3 Hoa3]
  · unfold roomR
    isplitl [Hqa1]; · iexact Hqa1
    isplitl [Hoa1]; · iexact Hoa1
    isplitl [Hqb1]; · iexact Hqb1
    isplitl [Hob1]; · iexact Hob1
    isplitl [Hqa3]; · iexact Hqa3
    iexact Hoa3
  ihave Hqb2 := (room_of c 2 (M := wqB) (r := q2) f8 rfl) $$ Hqb2
  ihave Hob2 := (room_of c 3 (M := woB) (r := o2) f9 rfl) $$ Hob2
  ihave Hqa2 := (room_of c 6 (M := wqA) (r := q2) f6 rfl) $$ Hqa2
  ihave Hoa2 := (room_of c 7 (M := woA) (r := o2) f7 rfl) $$ Hoa2
  ihave Hqb3 := (room_of c 10 (M := wqB) (r := q3) f8 rfl) $$ Hqb3
  ihave Hob3 := (room_of c 11 (M := woB) (r := o3) f9 rfl) $$ Hob3
  ihave HrL : roomL c $$ [Hqb2 Hob2 Hqa2 Hoa2 Hqb3 Hob3]
  · unfold roomL
    isplitl [Hqb2]; · iexact Hqb2
    isplitl [Hob2]; · iexact Hob2
    isplitl [Hqa2]; · iexact Hqa2
    isplitl [Hoa2]; · iexact Hoa2
    isplitl [Hqb3]; · iexact Hqb3
    iexact Hob3
  iapply (part1 m K c f6 f8) $$ [HO Htl Htr HrR HrL Hcb Hpb Hwq Hwo Hqa0 Hqb0]
  · isplitr; · iexact HR
    isplitl [HO]; · iexact HO
    isplitl [Htl]; · iexact Htl
    isplitl [Htr]; · iexact Htr
    isplitl [HrR]; · iexact HrR
    isplitl [HrL]; · iexact HrL
    isplitl [Hcb]; · iexact Hcb
    isplitl [Hpb]; · iexact Hpb
    isplitl [Hwq]; · iexact Hwq
    isplitl [Hwo]; · iexact Hwo
    isplitl [Hqa0]; · iexact Hqa0
    iexact Hqb0
  iintro ⟨HO, Hzb, HrL, HrR, Hwq, Hwo, Hqa0, Hqb0⟩
  ihave HrR := (Entails.of_eq (roomR_eq c)) $$ HrR
  icases HrR with ⟨Hr0, Hr1, Hr4, Hr5, Hr8, Hr9⟩
  ihave HrL := (Entails.of_eq (roomL_eq c)) $$ HrL
  icases HrL with ⟨Hr2, Hr3, Hr6, Hr7, Hr10, Hr11⟩
  ihave Hqa0 := (At_thirds c wqA q0 (fqA m c)) $$ Hqa0
  icases Hqa0 with ⟨Hs0, Hs6, Hqa0⟩
  ihave Hqb0 := (At_thirds c wqB q0 (fqB m c)) $$ Hqb0
  icases Hqb0 with ⟨Hs2, Hs4, Hqb0⟩
  iapply (part2 m K c f7 f9) $$ [HO Hs0 Hoa0 Hob0 Hm0 Hr0 Hm1 Hr1]
  · isplitr; · iexact HR
    isplitl [HO]; · iexact HO
    isplitl [Hs0]; · iexact Hs0
    isplitl [Hoa0]; · iexact Hoa0
    isplitl [Hob0]; · iexact Hob0
    isplitl [Hm0]; · iexact Hm0
    isplitl [Hr0]; · iexact Hr0
    isplitl [Hm1]; · iexact Hm1
    iexact Hr1
  iintro ⟨HO, Hs7, Hoa0, Hob0, Hc0, Hc1⟩
  ihave Hob0 := (At_thirds c woB o0 (foB m c)) $$ Hob0
  icases Hob0 with ⟨Hs3, Hs5, Hob0⟩
  iapply (part3 m K c) $$ [HO Hm2 Hr2 Hs2 Hm3 Hr3 Hs3 Hm4 Hr4 Hs4]
  · isplitr; · iexact HR
    isplitl [HO]; · iexact HO
    isplitl [Hm2]; · iexact Hm2
    isplitl [Hr2]; · iexact Hr2
    isplitl [Hs2]; · iexact Hs2
    isplitl [Hm3]; · iexact Hm3
    isplitl [Hr3]; · iexact Hr3
    isplitl [Hs3]; · iexact Hs3
    isplitl [Hm4]; · iexact Hm4
    isplitl [Hr4]; · iexact Hr4
    iexact Hs4
  iintro ⟨HO, Hc2, Hc3, Hc4⟩
  iapply (part4 m K c) $$ [HO Hm5 Hr5 Hs5 Hm6 Hr6 Hs6]
  · isplitr; · iexact HR
    isplitl [HO]; · iexact HO
    isplitl [Hm5]; · iexact Hm5
    isplitl [Hr5]; · iexact Hr5
    isplitl [Hs5]; · iexact Hs5
    isplitl [Hm6]; · iexact Hm6
    isplitl [Hr6]; · iexact Hr6
    iexact Hs6
  iintro ⟨HO, Hc5, Hc6⟩
  iapply (part5 m K c fk fv) $$ [HO Hm7 Hr7 Hs7 HkS HkM HvS HvM]
  · isplitr; · iexact HR
    isplitl [HO]; · iexact HO
    isplitl [Hm7]; · iexact Hm7
    isplitl [Hr7]; · iexact Hr7
    isplitl [Hs7]; · iexact Hs7
    isplitl [HkS]; · iexact HkS
    isplitl [HkM]; · iexact HkM
    isplitl [HvS]; · iexact HvS
    iexact HvM
  iintro ⟨HO, Hc7, HkS, Hk, HvS, Hv⟩
  iapply (part6 m c) $$ [Hx Hqa0]
  · isplitl [Hx]; · iexact Hx
    iexact Hqa0
  iintro ⟨Hx, Hqa0⟩
  iapply (part7 m c) $$ [Hoa0 Hk]
  · isplitl [Hoa0]; · iexact Hoa0
    iexact Hk
  iintro ⟨Hoa0, Hk⟩
  iapply (part8 m c) $$ [Hv]
  · iexact Hv
  iintro Hv
  iapply (part9 m c) $$ [Hqb0 Hob0 Hk]
  · isplitl [Hqb0]; · iexact Hqb0
    isplitl [Hob0]; · iexact Hob0
    iexact Hk
  iintro ⟨Hqb0, Hob0, Hk⟩
  iapply (part10 m c) $$ [Hv]
  · iexact Hv
  iintro Hv
  iapply (part11 m K c) $$ [HO Ha0 Hm8 Hr8]
  · isplitr; · iexact HR
    isplitl [HO]; · iexact HO
    isplitl [Ha0]; · iexact Ha0
    isplitl [Hm8]; · iexact Hm8
    iexact Hr8
  iintro ⟨HO, Hz0, Hqa1, Hc8⟩
  iapply (part12 m K c) $$ [HO Ha1 Hm9 Hr9 Ha2]
  · isplitr; · iexact HR
    isplitl [HO]; · iexact HO
    isplitl [Ha1]; · iexact Ha1
    isplitl [Hm9]; · iexact Hm9
    isplitl [Hr9]; · iexact Hr9
    iexact Ha2
  iintro ⟨HO, Hz1, Hoa1, Hc9, Hz2, Hqb2, Hs10⟩
  iapply (part13 m K c) $$ [HO Hm10 Hr10 Hs10 Ha3 Hm11 Hr11 Hqa1 Hoa1]
  · isplitr; · iexact HR
    isplitl [HO]; · iexact HO
    isplitl [Hm10]; · iexact Hm10
    isplitl [Hr10]; · iexact Hr10
    isplitl [Hs10]; · iexact Hs10
    isplitl [Ha3]; · iexact Ha3
    isplitl [Hm11]; · iexact Hm11
    isplitl [Hr11]; · iexact Hr11
    isplitl [Hqa1]; · iexact Hqa1
    iexact Hoa1
  iintro ⟨HO, Hc10, Hz3, Hob2, Hc11, Hqa1, Hoa1⟩
  iapply (part14 m c) $$ [Hk]
  · iexact Hk
  iintro Hk
  iapply (part15 m c) $$ [Hv Hqb2 Hob2]
  · isplitl [Hv]; · iexact Hv
    isplitl [Hqb2]; · iexact Hqb2
    iexact Hob2
  iintro ⟨Hv, Hqb2, Hob2⟩
  iapply (part16 m c) $$ [Hk]
  · iexact Hk
  iintro Hk
  iapply (part17 m c) $$ [Hv]
  · iexact Hv
  iintro Hv
  iapply (part18 m K c) $$ [HO Ha4 Ha5 Hk]
  · isplitr; · iexact HR
    isplitl [HO]; · iexact HO
    isplitl [Ha4]; · iexact Ha4
    isplitl [Ha5]; · iexact Ha5
    iexact Hk
  iintro ⟨HO, Hz4, Hqb1, Hz5, Hob1, Hk⟩
  iapply (part19 m c) $$ [Hk Hv]
  · isplitl [Hk]; · iexact Hk
    iexact Hv
  iintro ⟨Hk, Hv⟩
  iapply (part20 m K c) $$ [Hv HO Ha6]
  · isplitr; · iexact HR
    isplitl [Hv]; · iexact Hv
    isplitl [HO]; · iexact HO
    iexact Ha6
  iintro ⟨Hv, HO, Hz6, Hqa2⟩
  iapply (part21 m K c) $$ [HO Ha7 Hqa2 Hk]
  · isplitr; · iexact HR
    isplitl [HO]; · iexact HO
    isplitl [Ha7]; · iexact Ha7
    isplitl [Hqa2]; · iexact Hqa2
    iexact Hk
  iintro ⟨HO, Hz7, Hoa2, Hqa2, Hk⟩
  iapply (part22 m c) $$ [Hk Hv]
  · isplitl [Hk]; · iexact Hk
    iexact Hv
  iintro ⟨Hk, Hv⟩
  iapply (part23 m K c) $$ [Hv HO Ha8 Ha9]
  · isplitr; · iexact HR
    isplitl [Hv]; · iexact Hv
    isplitl [HO]; · iexact HO
    isplitl [Ha8]; · iexact Ha8
    iexact Ha9
  iintro ⟨Hv, HO, Hz8, Hqa3, Hz9, Hoa3⟩
  iapply (part24 m c) $$ [Hqa3 Hoa3 Hk]
  · isplitl [Hqa3]; · iexact Hqa3
    isplitl [Hoa3]; · iexact Hoa3
    iexact Hk
  iintro ⟨Hqa3, Hoa3, Hk⟩
  iapply (part25 m c) $$ [Hv]
  · iexact Hv
  iintro Hv
  iapply (part26 m K c) $$ [HO Ha10 Ha11 Hk]
  · isplitr; · iexact HR
    isplitl [HO]; · iexact HO
    isplitl [Ha10]; · iexact Ha10
    isplitl [Ha11]; · iexact Ha11
    iexact Hk
  iintro ⟨HO, Hz10, Hqb3, Hz11, Hob3, Hk⟩
  iapply (part27 m c) $$ [Hk]
  · iexact Hk
  iintro Hk
  iapply (part28 m c fo) $$ [Hv Hout]
  · isplitl [Hv]; · iexact Hv
    iexact Hout
  iintro ⟨Hv, Hout⟩
  iapply (part29 m K c) $$ [HO Hc0 Hc1 Hc2]
  · isplitr; · iexact HR
    isplitl [HO]; · iexact HO
    isplitl [Hc0]; · iexact Hc0
    isplitl [Hc1]; · iexact Hc1
    iexact Hc2
  iintro ⟨HO, Hy0, Hs0, Hy1, Hs1, Hy2, Hs2⟩
  iapply (part30 m K c) $$ [HO Hc3 Hc4 Hc5 Hc6]
  · isplitr; · iexact HR
    isplitl [HO]; · iexact HO
    isplitl [Hc3]; · iexact Hc3
    isplitl [Hc4]; · iexact Hc4
    isplitl [Hc5]; · iexact Hc5
    iexact Hc6
  iintro ⟨HO, Hy3, Hs3, Hy4, Hs4, Hy5, Hs5, Hy6, Hs6⟩
  iapply (part31 m K c) $$ [HO Hc7 Hc8 Hc9 Hc10]
  · isplitr; · iexact HR
    isplitl [HO]; · iexact HO
    isplitl [Hc7]; · iexact Hc7
    isplitl [Hc8]; · iexact Hc8
    isplitl [Hc9]; · iexact Hc9
    iexact Hc10
  iintro ⟨HO, Hy7, Hs7, Hy8, Hs8, Hy9, Hs9, Hy10, Hs10⟩
  iapply (wp_awaitSent m K c 11 [] rfl (creditO _)) $$ [HO Hc11]
  · isplitr; · iexact HR
    isplitl [HO] <;> iassumption
  iintro ⟨HO, Hy11, Hs11⟩
  ihave Hs11 := (show sendPay m c 11 ⊢ At c woB o2 lent (foB m c) from BI.Entails.refl _) $$ Hs11
  ihave Hqa0 := (At_join c wqA q0 (fqA m c)) $$ [Hs0 Hs6 Hqa0]
  · isplitl [Hs0]; · iexact Hs0
    isplitl [Hs6] <;> iassumption
  ihave Hqa1 := (At_lend c wqA q1 (fqA m c)).2 $$ [Hs8 Hqa1]
  · isplitl [Hs8] <;> iassumption
  ihave Hqa := (show _ ⊢ Held c wqA (fqA m c) from Entails.of_eq (q_slots wqA c (fqA m c)).symm) $$ [Hqa0 Hqa1 Hqa2 Hqa3]
  · isplitl [Hqa0]; · iexact Hqa0
    isplitl [Hqa1]; · iexact Hqa1
    isplitl [Hqa2] <;> iassumption
  ihave Hoa0 := (At_join c woA o0 (foA m c)) $$ [Hs1 Hs7 Hoa0]
  · isplitl [Hs1]; · iexact Hs1
    isplitl [Hs7] <;> iassumption
  ihave Hoa1 := (At_lend c woA o1 (foA m c)).2 $$ [Hs9 Hoa1]
  · isplitl [Hs9] <;> iassumption
  ihave Hoa := (show _ ⊢ Held c woA (foA m c) from Entails.of_eq (o_slots woA c (foA m c)).symm) $$ [Hoa0 Hoa1 Hoa2 Hoa3]
  · isplitl [Hoa0]; · iexact Hoa0
    isplitl [Hoa1]; · iexact Hoa1
    isplitl [Hoa2] <;> iassumption
  ihave Hqb0 := (At_join c wqB q0 (fqB m c)) $$ [Hs2 Hs4 Hqb0]
  · isplitl [Hs2]; · iexact Hs2
    isplitl [Hs4] <;> iassumption
  ihave Hqb2 := (At_lend c wqB q2 (fqB m c)).2 $$ [Hs10 Hqb2]
  · isplitl [Hs10] <;> iassumption
  ihave Hqb := (show _ ⊢ Held c wqB (fqB m c) from Entails.of_eq (q_slots wqB c (fqB m c)).symm) $$ [Hqb0 Hqb1 Hqb2 Hqb3]
  · isplitl [Hqb0]; · iexact Hqb0
    isplitl [Hqb1]; · iexact Hqb1
    isplitl [Hqb2] <;> iassumption
  ihave Hob0 := (At_join c woB o0 (foB m c)) $$ [Hs3 Hs5 Hob0]
  · isplitl [Hs3]; · iexact Hs3
    isplitl [Hs5] <;> iassumption
  ihave Hob2 := (At_lend c woB o2 (foB m c)).2 $$ [Hs11 Hob2]
  · isplitl [Hs11] <;> iassumption
  ihave Hob := (show _ ⊢ Held c woB (foB m c) from Entails.of_eq (o_slots woB c (foB m c)).symm) $$ [Hob0 Hob1 Hob2 Hob3]
  · isplitl [Hob0]; · iexact Hob0
    isplitl [Hob1]; · iexact Hob1
    isplitl [Hob2] <;> iassumption
  rw [wp_ret]; imodintro
  rw [wp_ret]; imodintro
  iapply HQ
  unfold away each
  isplitl [HO Hzb Hy0 Hy1 Hy2 Hy3 Hy4 Hy5 Hy6 Hy7 Hy8 Hy9 Hy10 Hy11 Hz0 Hz1 Hz2 Hz3 Hz4 Hz5 Hz6 Hz7 Hz8 Hz9 Hz10 Hz11]
  · isplitl [HO]; · iexact HO
    isplitl [Hzb]; · iexact Hzb
    isplitl [Hy0 Hy1 Hy2 Hy3 Hy4 Hy5 Hy6 Hy7 Hy8 Hy9 Hy10 Hy11]
    · isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      isplitl [Hy6]; · iexact Hy6
      isplitl [Hy7]; · iexact Hy7
      isplitl [Hy8]; · iexact Hy8
      isplitl [Hy9]; · iexact Hy9
      isplitl [Hy10]; · iexact Hy10
      iexact Hy11
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [Hx Hwq HkS HvS Hwo Hout]
  · isplitl [Hx]; · iexact Hx
    isplitl [Hwq]; · iexact Hwq
    isplitl [HkS]; · iexact HkS
    isplitl [HvS]; · iexact HvS
    isplitl [Hwo]; · iexact Hwo
    iexact Hout
  isplitl [Hqa]; · iexact Hqa
  isplitl [Hoa]; · iexact Hoa
  isplitl [Hqb]; · iexact Hqb
  isplitl [Hob]; · iexact Hob
  isplitl [Hk]; · iexact Hk
  iexact Hv

end Cert.RingAttn

end
-- ==== Proof.Deal.lean ====
/-
The launch of the exchange: the cells minted, their invariants allocated, the tokens dealt to the devices that
pay with them, and the credit each device's cells are owed.
-/
module

public import proofs.«01_k».proof.Proof.Body

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

omit [FloatOps F] in
/-- One of a kind for each copy, as a conjunction over the copies. -/
theorem each_eq (P : Fin 12 → sProp 𝕄) : bigSep Finset.univ P = each P :=
  bigSep_univ_eq_bigSepL [0, 1, 2, 3, 4, 5, 6, 7, 8, 9, 10, 11] (by decide) (by decide) P

/-! ## What is minted at launch -/

def ringCells : Finset (GSem nD τ sig) := Finset.univ.map ⟨kcell, kcell_injective⟩

/-- The duties of a device's own cells: two of its barrier, one of every send and receive cell. -/
abbrev TK : Type := Bool ⊕ (Fin 12 ⊕ Fin 12)
def tokOf : Dev nD × TK → GSem nD τ sig × ℕ × Bool
  | (c, .inl b) => (kcell (c, .inl ()), 0, b)
  | (c, .inr k) => (kcell (c, .inr k), 0, false)
theorem tokOf_injective : Function.Injective tokOf := by
  rintro ⟨c, b | k⟩ ⟨c', b' | k'⟩ h
  · have h1 := kcell_injective (congrArg Prod.fst h)
    have h2 : b = b' := congrArg (fun x => x.2.2) h
    have h3 : c = c' := congrArg Prod.fst h1
    rw [h2, h3]
  · exact absurd (Prod.ext_iff.mp (kcell_injective (congrArg Prod.fst h))).2 (by rintro ⟨⟩)
  · exact absurd (Prod.ext_iff.mp (kcell_injective (congrArg Prod.fst h))).2 (by rintro ⟨⟩)
  · have h1 := kcell_injective (congrArg Prod.fst h)
    have h2 : c = c' := congrArg Prod.fst h1
    have h3 : k = k' := Sum.inr.inj (congrArg Prod.snd h1)
    rw [h2, h3]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of a device's own cells. -/
def toks : sProp 𝕄 :=
  iprop((dutyTok ER (barCell c) 0 false ∗ dutyTok ER (barCell c) 0 true)
    ∗ (bigSep Finset.univ fun i => dutyTok ER (sendCell c i) 0 false) ∗ (bigSep Finset.univ fun i => dutyTok ER (recvCell c i) 0 false))

/-- A device's cells, as minted. -/
def minted : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

omit [FloatOps F] in
theorem toks_eq : (bigSep Finset.univ fun k : TK => (dutyTok ER (tokOf (c, k)).1 (tokOf (c, k)).2.1 (tokOf (c, k)).2.2 : sProp 𝕄)) = toks c := by
  rw [bigSep_univ_sum, bigSep_univ_sum]
  unfold toks
  rw [bigSep_univ_eq_bigSepL [false, true] (by decide) (by decide)]
  rfl

theorem fund_ring : BI.own (ER (initOf ringCells ringToks)) ⊢ (|==> bigSep Finset.univ (minted m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

/-! ## The semaphores -/

omit [FloatOps F] in
theorem ownSems0_eq : (Pipeline.ownSems0 (Ix := Unit) (Name := ℕ) (U := UU) (Lvl := ℕ) (Val := Elt F) (τ := τ) osem c : sProp 𝕄)
    = iprop((bigSep Finset.univ fun i => sentDone c i) ∗ (bigSep Finset.univ fun i => recvDone c i)) := by
  unfold Pipeline.ownSems0; rw [bigSep_univ_sum]; rfl
omit [FloatOps F] in
theorem unscopedSems0_eq : (unscopedSems0 c : sProp 𝕄) = semVal (barCell c) 0 := by
  unfold unscopedSems0; rw [bigSep_eq_bigSepL_of_eq [SemLoc.reg barS] (by decide) (by decide)]; rfl
omit [FloatOps F] in
theorem sems0_eq : iprop(Pipeline.ownSems0 (Ix := Unit) (Name := ℕ) (U := UU) (Lvl := ℕ) (Val := Elt F) (τ := τ) osem c ∗ unscopedSems0 c)
    ⊢ (bigSep Finset.univ fun k : CK => semVal (kcell (c, k)) 0 : sProp 𝕄) := by
  rw [unscopedSems0_eq, bigSep_univ_sum, Finset.univ_unique, bigSep_singleton]
  unfold Pipeline.ownSems0
  show _ ⊢ iprop(semVal (barCell c) 0 ∗ bigSep Finset.univ fun k => semVal ((c : Thread nD τ), osem k) 0)
  iintro ⟨HS, HB⟩
  isplitl [HB]; · iexact HB
  iexact HS

/-! ## The cells' invariants, and the tokens dealt to those who pay -/

theorem core_alloc :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold minted
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks : sProp 𝕄 :=
  iprop((dutyTok ER (barCell (nxt c)) 0 false ∗ dutyTok ER (barCell (prv c)) 0 true)
    ∗ (bigSep Finset.univ fun i => dutyTok ER (sendCell c i) 0 false) ∗ (bigSep Finset.univ fun i => dutyTok ER (recvCell (dst c i) i) 0 false))

/-- A copy and the device it leaves, against the copy and the device it reaches. -/
def reach : Dev nD × Fin 12 ≃ Dev nD × Fin 12 where
  toFun x := (dst x.1 x.2, x.2)
  invFun x := (org x.1 x.2, x.2)
  left_inv x := Prod.ext (org_dst x.1 x.2) rfl
  right_inv x := Prod.ext (dst_org x.1 x.2) rfl

omit [FloatOps F] in
theorem around_recv : (bigSep Finset.univ fun c : Dev nD => bigSep Finset.univ fun i => (dutyTok ER (recvCell c i) 0 false : sProp 𝕄))
    = bigSep Finset.univ fun c : Dev nD => bigSep Finset.univ fun i => dutyTok ER (recvCell (dst c i) i) 0 false := by
  have h (Φ : Dev nD × Fin 12 → sProp 𝕄) : (bigSep Finset.univ fun c => bigSep Finset.univ fun i => Φ (c, i)) = bigSep Finset.univ fun c => bigSep Finset.univ fun i => Φ (reach (c, i)) := by
    rw [← bigSep_univ_prod, bigSep_univ_equiv reach, bigSep_univ_prod]
  exact h fun x => dutyTok ER (recvCell x.1 x.2) 0 false

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)), around_recv]
  iintro ⟨⟨H1, H2⟩, H3, H4⟩
  isplitl [H1 H2]
  · isplitl [H1]; · iexact H1
    iexact H2
  isplitl [H3] <;> iassumption

/-- What device `c` has of the exchange but for credit and levels: the tokens it pays with, and its place at every cell of its own. -/
def part : sProp 𝕄 := iprop(payToks c ∗ bigSep Finset.univ fun k : CK => atPos ER (kcell (c, k)) 0 ∅ 0)
def ghost : sProp 𝕄 :=
  iprop(∃ K : Dev nD × CK → ℕ, ((bigSep Finset.univ fun ck : Dev nD × CK => cellInv ER (sched m) (K ck) (kcell ck))
    ∗ (bigSep Finset.univ fun ck : Dev nD × CK => reached ER (kcell ck) 0)) ∗ part c)

omit [FloatOps F] in
/-- What all devices know goes to each of them. -/
theorem share_out {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  have hg (d : Dev nD) : iprop(((bigSep Finset.univ fun ck : Dev nD × CK => cellInv ER (sched m) (K ck) (kcell ck))
    ∗ (bigSep Finset.univ fun ck : Dev nD × CK => reached ER (kcell ck) 0)) ∗ part d) ⊢ ghost m d := by
    unfold ghost; iintro H; iexists K; iexact H
  iapply (show (bigSep Finset.univ fun d : Dev nD => iprop(((bigSep Finset.univ fun ck : Dev nD × CK => cellInv ER (sched m) (K ck) (kcell ck))
    ∗ (bigSep Finset.univ fun ck : Dev nD × CK => reached ER (kcell ck) 0)) ∗ part d) : sProp 𝕄) ⊢ bigSep Finset.univ (ghost m) from bigSep_mono fun d _ => hg d)
  iapply (share_out Finset.univ _ (fun c => (part c : sProp 𝕄)))
  isplitr
  · isplitl; · iexact HI
    iexact HR
  unfold part
  rw [bigSep_sep']
  isplitl [Htk]; · iexact Htk
  iexact Hat

/-- The dealing, for all devices at once. -/
theorem glob : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (ghost m) :=
  ((bigSep_mono fun c _ => core_alloc m c).trans (bigSep_fupd _ _)).trans (BI.fupd_mono (regroup m))

/-! ## The launch credit -/

theorem dues_sum (l : List (Fin 12)) : dues c l = (l.map fun i => (tallyAt (recvCell (dst c i) i) () N : CellTallies nD τ sig Unit)).sum := by
  induction l with
  | nil => rfl
  | cons i l ih => rw [List.map_cons, List.sum_cons, ← ih, add_comm]; rfl

theorem dues_all : dues c allCopies = ∑ i : Fin 12, (tallyAt (recvCell (dst c i) i) () N : CellTallies nD τ sig Unit) := by
  rw [dues_sum, Fin.sum_univ_def]; rfl

omit [FloatOps F] in
/-- What the devices owe device `c`'s cells at launch: two units of its barrier, a piece's credit of each of its receive cells. -/
theorem creds : (Pipeline.launchCred O₀ c : sProp 𝕄) ⊢ iprop(cred (tallyAt (barCell c) () 2) ∗ bigSep Finset.univ fun i => cred (tallyAt (recvCell c i) () N)) := by
  have e : O₀ = fun d => ((∑ i : Fin 12, tallyAt (recvCell (dst d i) i) () N) + tallyAt (barCell (nxt d)) () 1) + tallyAt (barCell (prv d)) () 1 :=
    funext fun d => by unfold O₀; rw [dues_all]
  rw [e, Pipeline.launchCred_add (fun d => (∑ i : Fin 12, tallyAt (recvCell (dst d i) i) () N) + tallyAt (barCell (nxt d)) () 1) (fun d => tallyAt (barCell (prv d)) () 1),
    Pipeline.launchCred_add (fun d => ∑ i : Fin 12, tallyAt (recvCell (dst d i) i) () N) (fun d => tallyAt (barCell (nxt d)) () 1),
    Pipeline.launchCred_sum Finset.univ (fun i d => tallyAt (recvCell (dst d i) i) () N)]
  iintro ⟨⟨Hr, Hn⟩, Hp⟩
  ihave H1 := (Pipeline.launchCred_tallyAt (.reg barS) nxt prv nxt_prv prv_nxt () 1 c) $$ Hn
  ihave H2 := (Pipeline.launchCred_tallyAt (.reg barS) prv nxt prv_nxt nxt_prv () 1 c) $$ Hp
  isplitl [H1 H2]
  · rw [← tallyAt_add (barCell c) () 1 1]
    iapply (cred_add (tallyAt (barCell c) () 1) (tallyAt (barCell c) () 1)).2
    isplitl [H1] <;> iassumption
  iapply (show (bigSep Finset.univ fun i => Pipeline.launchCred (fun d => tallyAt (recvCell (dst d i) i) () N) c : sProp 𝕄)
      ⊢ bigSep Finset.univ fun i => cred (tallyAt (recvCell c i) () N) from
    bigSep_mono fun i _ => Pipeline.launchCred_tallyAt (.dma (recvQ i)) (fun d => dst d i) (fun d => org d i) (fun d => dst_org d i) (fun d => org_dst d i) () N c)
  iexact Hr

end Cert.RingAttn

end
-- ==== Proof.Run.lean ====
/-
The run of the kernel on the four devices: the body's obligation, the launch, and what every array holds at the end.
-/
module

public import proofs.«01_k».proof.Proof.Deal
public import proofs.«01_k».proof.Proof.Gen.KernelIdeal.Points
public import Idealize.ShloMosaic.Lib.Pipeline.CollectiveSegs

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- What device `c` starts from. -/
def start : sProp 𝕄 :=
  iprop((∃ K, records m K ∗ part c) ∗ cred (tallyAt (barCell c) () 2) ∗ bigSep Finset.univ fun i => cred (tallyAt (recvCell c i) () N))

/-- The scratch buffers holding anything. -/
def scratch : sProp 𝕄 :=
  iprop((∃ f, Held c wqA f) ∗ (∃ f, Held c woA f) ∗ (∃ f, Held c wqB f) ∗ (∃ f, Held c woB f) ∗ (∃ f, Held c kM f) ∗ (∃ f, Held c vM f))

def Φ₀ : sProp 𝕄 := iprop(start m c ∗ scratch c)
def Φ₁ : sProp 𝕄 := iprop((semVal (barCell c) 0 ∗ (bigSep Finset.univ fun i => sentDone c i) ∗ (bigSep Finset.univ fun i => recvDone c i)) ∗ scratch c)

/-- What the windows hold, and what the body starts and ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
theorem held_wqA (f : Buf (Elt F) ((c : Thread nD τ).loc cc0_scratch0)) : (Held c wqA f : sProp 𝕄) = (((c : Thread nD τ).loc cc0_scratch0) ↦{fullShare} f) := by
  unfold Held; rw [show (wqA : Memref sig .tc .vmem _ _).view.set = Finset.univ from View.set_whole _]
omit [FloatOps F] in
theorem held_woA (f : Buf (Elt F) ((c : Thread nD τ).loc cc0_scratch1)) : (Held c woA f : sProp 𝕄) = (((c : Thread nD τ).loc cc0_scratch1) ↦{fullShare} f) := by
  unfold Held; rw [show (woA : Memref sig .tc .vmem _ _).view.set = Finset.univ from View.set_whole _]
omit [FloatOps F] in
theorem held_wqB (f : Buf (Elt F) ((c : Thread nD τ).loc cc0_scratch2)) : (Held c wqB f : sProp 𝕄) = (((c : Thread nD τ).loc cc0_scratch2) ↦{fullShare} f) := by
  unfold Held; rw [show (wqB : Memref sig .tc .vmem _ _).view.set = Finset.univ from View.set_whole _]
omit [FloatOps F] in
theorem held_woB (f : Buf (Elt F) ((c : Thread nD τ).loc cc0_scratch3)) : (Held c woB f : sProp 𝕄) = (((c : Thread nD τ).loc cc0_scratch3) ↦{fullShare} f) := by
  unfold Held; rw [show (woB : Memref sig .tc .vmem _ _).view.set = Finset.univ from View.set_whole _]
omit [FloatOps F] in
theorem held_kM (f : Buf (Elt F) ((c : Thread nD τ).loc cc0_scratch4)) : (Held c kM f : sProp 𝕄) = (((c : Thread nD τ).loc cc0_scratch4) ↦{fullShare} f) := by
  unfold Held; rw [show (kM : Memref sig .tc .vmem _ _).view.set = Finset.univ from View.set_whole _]
omit [FloatOps F] in
theorem held_vM (f : Buf (Elt F) ((c : Thread nD τ).loc cc0_scratch5)) : (Held c vM f : sProp 𝕄) = (((c : Thread nD τ).loc cc0_scratch5) ↦{fullShare} f) := by
  unfold Held; rw [show (vM : Memref sig .tc .vmem _ _).view.set = Finset.univ from View.set_whole _]
omit [FloatOps F] in
theorem held_xS (f : Buf (Elt F) ((c : Thread nD τ).loc cc0_stg0_0)) : (Held c xS f : sProp 𝕄) = (((c : Thread nD τ).loc cc0_stg0_0) ↦{fullShare} f) := by
  unfold Held; rw [show (xS : Memref sig .tc .vmem _ _).view.set = Finset.univ from View.set_whole _]
omit [FloatOps F] in
theorem held_wqS (f : Buf (Elt F) ((c : Thread nD τ).loc cc0_stg1_0)) : (Held c wqS f : sProp 𝕄) = (((c : Thread nD τ).loc cc0_stg1_0) ↦{fullShare} f) := by
  unfold Held; rw [show (wqS : Memref sig .tc .vmem _ _).view.set = Finset.univ from View.set_whole _]
omit [FloatOps F] in
theorem held_kS (f : Buf (Elt F) ((c : Thread nD τ).loc cc0_stg2_0)) : (Held c kS f : sProp 𝕄) = (((c : Thread nD τ).loc cc0_stg2_0) ↦{fullShare} f) := by
  unfold Held; rw [show (kS : Memref sig .tc .vmem _ _).view.set = Finset.univ from View.set_whole _]
omit [FloatOps F] in
theorem held_vS (f : Buf (Elt F) ((c : Thread nD τ).loc cc0_stg3_0)) : (Held c vS f : sProp 𝕄) = (((c : Thread nD τ).loc cc0_stg3_0) ↦{fullShare} f) := by
  unfold Held; rw [show (vS : Memref sig .tc .vmem _ _).view.set = Finset.univ from View.set_whole _]
omit [FloatOps F] in
theorem held_woS (f : Buf (Elt F) ((c : Thread nD τ).loc cc0_stg4_0)) : (Held c woS f : sProp 𝕄) = (((c : Thread nD τ).loc cc0_stg4_0) ↦{fullShare} f) := by
  unfold Held; rw [show (woS : Memref sig .tc .vmem _ _).view.set = Finset.univ from View.set_whole _]
omit [FloatOps F] in
theorem held_oS (f : Buf (Elt F) ((c : Thread nD τ).loc cc0_stg5_0)) : (Held c oS f : sProp 𝕄) = (((c : Thread nD τ).loc cc0_stg5_0) ↦{fullShare} f) := by
  unfold Held; rw [show (oS : Memref sig .tc .vmem _ _).view.set = Finset.univ from View.set_whole _]

def bodyPre : sProp 𝕄 :=
  iprop(Φ₀ m c ∗ (dats m ρ 0 c).owesAt () t0_0.castSucc
    ∗ (∃ d, (∃ f : Buf (Elt F) ((c : Thread nD τ).loc cc0_stg0_0), ⌜f = (dats m ρ 0 c).before (0 : Fin 6) t0_0 d⌝ ∗ (((c : Thread nD τ).loc cc0_stg0_0) ↦{fullShare} f)))
    ∗ (∃ d, (∃ f : Buf (Elt F) ((c : Thread nD τ).loc cc0_stg1_0), ⌜f = (dats m ρ 0 c).before (1 : Fin 6) t0_0 d⌝ ∗ (((c : Thread nD τ).loc cc0_stg1_0) ↦{fullShare} f)))
    ∗ (∃ d, (∃ f : Buf (Elt F) ((c : Thread nD τ).loc cc0_stg2_0), ⌜f = (dats m ρ 0 c).before (2 : Fin 6) t0_0 d⌝ ∗ (((c : Thread nD τ).loc cc0_stg2_0) ↦{fullShare} f)))
    ∗ (∃ d, (∃ f : Buf (Elt F) ((c : Thread nD τ).loc cc0_stg3_0), ⌜f = (dats m ρ 0 c).before (3 : Fin 6) t0_0 d⌝ ∗ (((c : Thread nD τ).loc cc0_stg3_0) ↦{fullShare} f)))
    ∗ (∃ d, (∃ f : Buf (Elt F) ((c : Thread nD τ).loc cc0_stg4_0), ⌜f = (dats m ρ 0 c).before (4 : Fin 6) t0_0 d⌝ ∗ (((c : Thread nD τ).loc cc0_stg4_0) ↦{fullShare} f)))
    ∗ (∃ d, (∃ f : Buf (Elt F) ((c : Thread nD τ).loc cc0_stg5_0), ⌜f = (dats m ρ 0 c).before (5 : Fin 6) t0_0 d⌝ ∗ (((c : Thread nD τ).loc cc0_stg5_0) ↦{fullShare} f))))
def bodyPost : sProp 𝕄 :=
  iprop(Φ₁ c ∗ (dats m ρ 0 c).owesAt () t0_0.succ
    ∗ (∃ f : Buf (Elt F) ((c : Thread nD τ).loc cc0_stg0_0), ⌜f = (dats m ρ 0 c).after (0 : Fin 6) t0_0⌝ ∗ (((c : Thread nD τ).loc cc0_stg0_0) ↦{fullShare} f))
    ∗ (∃ f : Buf (Elt F) ((c : Thread nD τ).loc cc0_stg1_0), ⌜f = (dats m ρ 0 c).after (1 : Fin 6) t0_0⌝ ∗ (((c : Thread nD τ).loc cc0_stg1_0) ↦{fullShare} f))
    ∗ (∃ f : Buf (Elt F) ((c : Thread nD τ).loc cc0_stg2_0), ⌜f = (dats m ρ 0 c).after (2 : Fin 6) t0_0⌝ ∗ (((c : Thread nD τ).loc cc0_stg2_0) ↦{fullShare} f))
    ∗ (∃ f : Buf (Elt F) ((c : Thread nD τ).loc cc0_stg3_0), ⌜f = (dats m ρ 0 c).after (3 : Fin 6) t0_0⌝ ∗ (((c : Thread nD τ).loc cc0_stg3_0) ↦{fullShare} f))
    ∗ (∃ f : Buf (Elt F) ((c : Thread nD τ).loc cc0_stg4_0), ⌜f = (dats m ρ 0 c).after (4 : Fin 6) t0_0⌝ ∗ (((c : Thread nD τ).loc cc0_stg4_0) ↦{fullShare} f))
    ∗ (∃ f : Buf (Elt F) ((c : Thread nD τ).loc cc0_stg5_0), ⌜f = (dats m ρ 0 c).after (5 : Fin 6) t0_0⌝ ∗ (((c : Thread nD τ).loc cc0_stg5_0) ↦{fullShare} f)))

theorem before_0 (d) : (dats m ρ 0 c).before (0 : Fin 6) t0_0 d = xIn m c := by
  unfold Dat.before; rw [if_pos (fetch0_0 t0_0)]; rfl
theorem before_1 (d) : (dats m ρ 0 c).before (1 : Fin 6) t0_0 d = wqIn m c := by
  unfold Dat.before; rw [if_pos (fetch0_1 t0_0)]; rfl
theorem before_2 (d) : (dats m ρ 0 c).before (2 : Fin 6) t0_0 d = kIn m c := by
  unfold Dat.before; rw [if_pos (fetch0_2 t0_0)]; rfl
theorem before_3 (d) : (dats m ρ 0 c).before (3 : Fin 6) t0_0 d = vIn m c := by
  unfold Dat.before; rw [if_pos (fetch0_3 t0_0)]; rfl
theorem before_4 (d) : (dats m ρ 0 c).before (4 : Fin 6) t0_0 d = woIn m c := by
  unfold Dat.before; rw [if_pos (fetch0_4 t0_0)]; rfl

/-- The tokens, the places and the credit, copy by copy. -/
theorem bring_intro : iprop(start m c ∗ Owing c (O₀ c)) ⊢ iprop(∃ K, bring m K c) := by
  unfold start part payToks bring
  iintro ⟨⟨⟨%K, #HR, ⟨⟨Hn, Hp⟩, Hs, Hr⟩, Hat⟩, Hcb, Hcr⟩, HO⟩
  iexists K
  ihave Hat' := (show (bigSep Finset.univ fun k : CK => (atPos ER (kcell (c, k)) 0 ∅ 0 : sProp 𝕄))
      ⊢ iprop(atPos ER (barCell c) 0 ∅ 0 ∗ (bigSep Finset.univ fun i => atPos ER (sendCell c i) 0 ∅ 0) ∗ (bigSep Finset.univ fun i => atPos ER (recvCell c i) 0 ∅ 0)) from by
    rw [bigSep_univ_sum, bigSep_univ_sum, Finset.univ_unique, bigSep_singleton]; exact Entails.of_eq rfl) $$ Hat
  icases Hat' with ⟨Hab, Has, Har⟩
  isplitr; · iexact HR
  isplitl [HO]; · iexact HO
  isplitl [Hp]; · iexact Hp
  isplitl [Hn]; · iexact Hn
  isplitl [Hcb]; · iexact Hcb
  isplitl [Hab]; · iexact Hab
  rw [← each_eq, ← each_eq]
  unfold mayCopy awaits
  rw [bigSep_sep', bigSep_sep', bigSep_sep']
  isplitl [Hs Hr Has]
  · isplitl [Hs]; · iexact Hs
    isplitl [Hr] <;> iassumption
  isplitl [Hcr] <;> iassumption

set_option maxRecDepth 4000 in
theorem body_whole : bodyPre m ρ c ⊢ wp frame (wpE (defs₀ (F := F)) 𝒱₀ (c : Thread nD τ) none) Set.univ (cc0_body xS (Memref.isWhole_whole _) wqS (Memref.isWhole_whole _) kS (Memref.isWhole_whole _) vS (Memref.isWhole_whole _) woS (Memref.isWhole_whole _) oS (Memref.isWhole_whole _) wqA (Memref.isWhole_whole _) woA (Memref.isWhole_whole _) wqB (Memref.isWhole_whole _) woB (Memref.isWhole_whole _) kM (Memref.isWhole_whole _) vM (Memref.isWhole_whole _) cc0_scratch6 cc0_scratch7) (fun _ => bodyPost m ρ c) := by
  unfold bodyPre bodyPost Φ₀ Φ₁ scratch Dat.owesAt Pipeline.owesWithin
  simp only [before_0, before_1, before_2, before_3, before_4, ← held_xS, ← held_wqS, ← held_kS, ← held_vS, ← held_woS, ← held_oS]
  iintro ⟨⟨Hst, ⟨%f6, H6⟩, ⟨%f7, H7⟩, ⟨%f8, H8⟩, ⟨%f9, H9⟩, ⟨%fk, Hk⟩, ⟨%fv, Hv⟩⟩, Ho, ⟨%d0, %g0, %e0, Hx⟩, ⟨%d1, %g1, %e1, Hwq⟩, ⟨%d2, %g2, %e2, HkS⟩, ⟨%d3, %g3, %e3, HvS⟩, ⟨%d4, %g4, %e4, Hwo⟩, ⟨%d5, %g5, %e5, Hout⟩⟩
  subst e0 e1 e2 e3 e4
  icases Ho with ⟨%W, %hW, HO⟩
  ihave HB := (bring_intro m c) $$ [Hst HO]
  · isplitl [Hst]; · iexact Hst
    unfold Owing; iexists W; iexact HO
  icases HB with ⟨%K, HB⟩
  iapply (body_run m K c g5 f6 f7 f8 f9 fk fv) $$ [HB H6 H7 H8 H9 Hk Hv Hx Hwq HkS HvS Hwo Hout]
  · isplitl [HB]; · iexact HB
    isplitl [Hx Hwq HkS HvS Hwo Hout]
    · isplitl [Hx]; · iexact Hx
      isplitl [Hwq]; · iexact Hwq
      isplitl [HkS]; · iexact HkS
      isplitl [HvS]; · iexact HvS
      isplitl [Hwo] <;> iassumption
    isplitl [H6]; · iexact H6
    isplitl [H7]; · iexact H7
    isplitl [H8]; · iexact H8
    isplitl [H9]; · iexact H9
    isplitl [Hk] <;> iassumption
  unfold away
  iintro ⟨⟨HO, Hb, Hs, Hr⟩, ⟨Hx, Hwq, HkS, HvS, Hwo, Hout⟩, H6, H7, H8, H9, Hk, Hv⟩
  ihave Hs := (Entails.of_eq (each_eq (sentDone (F := F) c)).symm) $$ Hs
  ihave Hr := (Entails.of_eq (each_eq (recvDone (F := F) c)).symm) $$ Hr
  isplitl [Hb Hs Hr H6 H7 H8 H9 Hk Hv]
  · isplitl [Hb Hs Hr]
    · isplitl [Hb]; · iexact Hb
      isplitl [Hs] <;> iassumption
    isplitl [H6]; · iexists _; iexact H6
    isplitl [H7]; · iexists _; iexact H7
    isplitl [H8]; · iexists _; iexact H8
    isplitl [H9]; · iexists _; iexact H9
    isplitl [Hk]; · iexists _; iexact Hk
    iexists _; iexact Hv
  isplitl [HO]
  · unfold Owing; icases HO with ⟨%W', HO⟩
    iexists W'; isplitr; · (ipureintro; exact fun _ _ => Or.inl trivial)
    iexact HO
  isplitl [Hx]; · iexists _; isplitr; · (ipureintro; rfl)
                  iexact Hx
  isplitl [Hwq]; · iexists _; isplitr; · (ipureintro; rfl)
                   iexact Hwq
  isplitl [HkS]; · iexists _; isplitr; · (ipureintro; rfl)
                   iexact HkS
  isplitl [HvS]; · iexists _; isplitr; · (ipureintro; rfl)
                   iexact HvS
  isplitl [Hwo]; · iexists _; isplitr; · (ipureintro; rfl)
                   iexact Hwo
  iexists _; isplitr; · (ipureintro; rfl)
  iexact Hout

omit [FloatOps F] in
theorem windows (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
theorem body_obligation : BodyObligation (dats (F := F) m ρ 0 c) (defs₀ (F := F)) 𝒱₀ () Set.univ := fun t => by
  rw [fin_N0 t, windows, windows]
  simp only [owns_whole]
  exact body_whole m ρ c

/-! ## The launch -/

theorem ownSemFacts : Pipeline.OwnSemFacts cfg0.spec osem := by decide

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H1, HN⟩
  imodintro
  unfold start ghost records
  icases HG with ⟨%K, ⟨HI, HR⟩, Hp⟩
  isplitl
  · isplitl [HI HR Hp Hlev]
    · iexists K
      isplitl [HI HR Hlev]
      · isplitl [HI]; · iexact HI
        isplitl [HR] <;> iassumption
      iexact Hp
    isplitl [H1] <;> iassumption
  · iempintro

omit [FloatOps F] in
theorem scratch_eq : (Pipeline.scopedRest cfg0.spec c : sProp 𝕄) = scratch c := by
  rw [scopedRest0_eq]
  unfold scratch
  simp only [held_wqA, held_woA, held_wqB, held_woB, held_kM, held_vM]

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq]
  unfold Φ₁
  iintro ⟨⟨Hb, Hs⟩, Hr⟩
  isplitl [Hb]; · iexact Hb
  isplitl [Hs] <;> iassumption

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- From any memory, counters at zero: every weakly fair run of the four devices ends, with every window's array at the computed
    contents and every counter back at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_arg0 : finalA m ρ c (0 : Fin 6) = m ((c : Thread nD τ).loc main_arg0) := (dats (F := F) m ρ 0 c).arrAt_in (0 : Fin 6) rfl _
theorem final_arg1 : finalA m ρ c (1 : Fin 6) = m ((c : Thread nD τ).loc main_arg1) := (dats (F := F) m ρ 0 c).arrAt_in (1 : Fin 6) rfl _
theorem final_arg2 : finalA m ρ c (2 : Fin 6) = m ((c : Thread nD τ).loc main_arg2) := (dats (F := F) m ρ 0 c).arrAt_in (2 : Fin 6) rfl _
theorem final_arg3 : finalA m ρ c (3 : Fin 6) = m ((c : Thread nD τ).loc main_arg3) := (dats (F := F) m ρ 0 c).arrAt_in (3 : Fin 6) rfl _
theorem final_arg4 : finalA m ρ c (4 : Fin 6) = m ((c : Thread nD τ).loc main_arg4) := (dats (F := F) m ρ 0 c).arrAt_in (4 : Fin 6) rfl _

end Cert.RingAttn

end
-- ==== Proof.Frames.lean ====
/-
The frames: each program leaves its arguments as they were and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A run of the kernel leaves the five arguments as they were. -/
theorem args_kept (m : (ℓ : Loc nD τ sig) → Buf (Elt F) ℓ) (ρ : Dev nD → PrngReg) {mem : (ℓ : Loc nD τ sig) → Buf (Elt F) ℓ}
    (h : ∀ (c : Dev nD) (w : Fin cfg0.W), mem ((cfg0.win w).arr.view.loc (c : Thread nD τ)) = finalA m ρ c w) (c : Dev nD) :
    mem ((c : Thread nD τ).loc main_arg0) = m ((c : Thread nD τ).loc main_arg0) ∧ mem ((c : Thread nD τ).loc main_arg1) = m ((c : Thread nD τ).loc main_arg1)
      ∧ mem ((c : Thread nD τ).loc main_arg2) = m ((c : Thread nD τ).loc main_arg2) ∧ mem ((c : Thread nD τ).loc main_arg3) = m ((c : Thread nD τ).loc main_arg3)
      ∧ mem ((c : Thread nD τ).loc main_arg4) = m ((c : Thread nD τ).loc main_arg4) :=
  ⟨(h c (0 : Fin 6)).trans (final_arg0 m ρ c), (h c (1 : Fin 6)).trans (final_arg1 m ρ c), (h c (2 : Fin 6)).trans (final_arg2 m ρ c),
    (h c (3 : Fin 6)).trans (final_arg3 m ρ c), (h c (4 : Fin 6)).trans (final_arg4 m ρ c)⟩

theorem frame_ideal : Cert.quiescent_KernelIdeal (hKernelIdeal := Cert.KernelIdeal.Gen.facts) := fun m ρ _ =>
  (θ_run Cert.KernelIdeal.defs _ _).mono (fun _ h => ⟨args_kept m ρ h.1, h.2⟩) (run_main (F := Ideal) m ρ)

set_option maxRecDepth 8000 in
/-- The two prints of the kernel define the same programs. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (t, s) => rfl

set_option maxRecDepth 8000 in
theorem defs_eq : @Cert.Kernel.defs Bits _ Cert.Kernel.Gen.facts = @Cert.KernelIdeal.defs Bits _ Cert.KernelIdeal.Gen.facts :=
  congrArg (Pipeline.defs Cert.KernelIdeal.pcfgs) defs₀_eq

set_option maxRecDepth 8000 in
theorem frame_kernel : Cert.quiescent_Kernel (hKernel := Cert.Kernel.Gen.facts) := fun m ρ _ => by
  rw [defs_eq]
  exact (θ_run Cert.KernelIdeal.defs _ _).mono (fun _ h => ⟨args_kept (F := Bits) m ρ h.1, h.2⟩) (run_main (F := Bits) m ρ)

/-- The reference's run keeps its arguments, and it has no counter to move. -/
theorem frame_reference : Cert.quiescent_ReferenceIdeal (hReferenceIdeal := Cert.ReferenceIdeal.Gen.facts) := fun m ρ _ =>
  (θ_run Cert.ReferenceIdeal.defs _ _).mono (fun r h => ⟨fun c => (h c).2, funext fun g => by rcases g with ⟨t, ⟨s⟩ | ⟨s⟩⟩ <;> exact s.elim0⟩) (Cert.ReferenceIdeal.Value.run (F := Ideal) m ρ)

end Cert.RingAttn

end
-- ==== Proof.Blocks.lean ====
/-
What one of the eight products leaves, built from the steps of the program: the projected queries, the dot
products with four heads of keys, the masked scores, the weights, the mixed values times the rows of `Wo`; and
the result block as the sum of the eight.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The steps -/

/-- The queries against one piece of `Wq`. -/
def proj (x : FVec F S256x512 .bf16) (wq : Vec F S1x512x128 .bf16) : FVec F S256x128 .f32 :=
  matmul dot_S256x512_S512x128_S256x128_1_0_0_1_n_n none x (shapeCast S512x128 wq shapeCasts_S1x512x128_S512x128) (constant S256x128 .f32 0x00000000#32)

/-- One head of keys or of values, as a matrix. -/
def headOf (k : Vec F S1x128x1x64 .f32) : FVec F S128x64 .bf16 := truncf .bf16 (shapeCast S128x64 k shapeCasts_S1x128x1x64_S128x64) bitsLt_bf16_f32

/-- A quarter of the queries against one head of keys. -/
def against (q : FVec F S128x64 .f32) (k : Vec F S1x128x1x64 .f32) : FVec F S128x128 .f32 :=
  matmul dot_S128x64_S128x64_S128x128_1_1_0_0_n_n none (truncf .bf16 q bitsLt_bf16_f32) (headOf k) (constant S128x128 .f32 0x00000000#32)

/-- The dot products of two batch entries and two heads, one below the other. -/
def dots (q : FVec F S256x128 .f32) (k00 k01 k10 k11 : Vec F S1x128x1x64 .f32) : FVec F S512x128 .f32 :=
  concatenate S512x128 0
    [⟨S128x128, against (extractStridedSlice S128x64 ![0, 0] q slices_S256x128_o0_0_S128x64) k00⟩,
     ⟨S128x128, against (extractStridedSlice S128x64 ![0, 64] q slices_S256x128_o0_64_S128x64) k01⟩,
     ⟨S128x128, against (extractStridedSlice S128x64 ![128, 0] q slices_S256x128_o128_0_S128x64) k10⟩,
     ⟨S128x128, against (extractStridedSlice S128x64 ![128, 64] q slices_S256x128_o128_64_S128x64) k11⟩]
    concatenates_S128x128_S128x128_S128x128_S128x128_S512x128_d0

/-- The scores: scaled, and the excluded places at the mask's number. -/
def scores (msk : IVec S512x128 1) (s : FVec F S512x128 .f32) : FVec F S512x128 .f32 :=
  select msk (mulf s (broadcast S512x128 (Scalar.ofBits .f32 0x3E000000#32))) (broadcast S512x128 (Scalar.ofBits .f32 0xCE6E6B28#32))

/-- The exponentials of the scores less their row's largest. -/
def expo (s : FVec F S512x128 .f32) : FVec F S512x128 .f32 :=
  exp (subf s (broadcastTo S512x128 (shapeCast S512x1 (multiReduction .maximumf [1] S512 s 0xFF800000#32 reduces_S512x128_S512 (.inl rfl) rfl) shapeCasts_S512_S512x1) broadcasts_S512x1_S512x128))

/-- The weights: each row divided by its sum. -/
def normed (e : FVec F S512x128 .f32) : FVec F S512x128 .bf16 :=
  truncf .bf16 (divf e (broadcastTo S512x128 (shapeCast S512x1 (multiReduction .add [1] S512 e 0x00000000#32 reduces_S512x128_S512 (.inl rfl) rfl) shapeCasts_S512_S512x1) broadcasts_S512x1_S512x128)) bitsLt_bf16_f32

/-- Two heads' mixed values side by side, times the rows of `Wo`. -/
def mixed (wa wb : FVec F S128x128 .bf16) (va vb : Vec F S1x128x1x64 .f32) (wo : Vec F S1x128x512 .bf16) : FVec F S128x512 .f32 :=
  matmul dot_S128x128_S128x512_S128x512_1_0_0_1_n_n none
    (truncf .bf16 (concatenate S128x128 1
      [⟨S128x64, matmul dot_S128x128_S128x64_S128x64_1_0_0_1_n_n none wa (headOf va) (constant S128x64 .f32 0x00000000#32)⟩,
       ⟨S128x64, matmul dot_S128x128_S128x64_S128x64_1_0_0_1_n_n none wb (headOf vb) (constant S128x64 .f32 0x00000000#32)⟩]
      concatenates_S128x64_S128x64_S128x128_d1) bitsLt_bf16_f32)
    (shapeCast S128x512 wo shapeCasts_S1x128x512_S128x512) (constant S128x512 .f32 0x00000000#32)

/-! ## One product of a device -/

variable (m : (ℓ : Loc nD τ sig) → Buf (Elt F) ℓ)

/-- The weights of heads `p` and `p + 1` of the turned keys. -/
def weights (c : Dev nD) (wq : Vec F S1x512x128 .bf16) (p : ℕ) : FVec F S512x128 .bf16 :=
  normed (expo (scores (v194 c) (dots (proj (v193 m c) wq) (rdK m c 0 p) (rdK m c 0 (p + 1)) (rdK m c 1 p) (rdK m c 1 (p + 1)))))

/-- What the product adds to the first batch entry, -/
def product0 (c : Dev nD) (wq : Vec F S1x512x128 .bf16) (wo : Vec F S1x128x512 .bf16) (p : ℕ) : FVec F S128x512 .f32 :=
  mixed (extractStridedSlice S128x128 ![0, 0] (weights m c wq p) slices_S512x128_o0_0_S128x128) (extractStridedSlice S128x128 ![128, 0] (weights m c wq p) slices_S512x128_o128_0_S128x128)
    (rdV m c 0 p) (rdV m c 0 (p + 1)) wo
/-- and to the second. -/
def product1 (c : Dev nD) (wq : Vec F S1x512x128 .bf16) (wo : Vec F S1x128x512 .bf16) (p : ℕ) : FVec F S128x512 .f32 :=
  mixed (extractStridedSlice S128x128 ![256, 0] (weights m c wq p) slices_S512x128_o256_0_S128x128) (extractStridedSlice S128x128 ![384, 0] (weights m c wq p) slices_S512x128_o384_0_S128x128)
    (rdV m c 1 p) (rdV m c 1 (p + 1)) wo

/-! ## The eight of them -/

/-- The products in the program's order, added up. -/
def eight (f : Vec F S1x512x128 .bf16 → Vec F S1x128x512 .bf16 → ℕ → FVec F S128x512 .f32) (c : Dev nD) : FVec F S128x512 .f32 :=
  addf (addf (addf (addf (addf (addf (addf (f (rdQA m c 0) (rdOA m c 0) 0) (f (rdQB m c 0) (rdOB m c 0) 2)) (f (rdQA m c 1) (rdOA m c 1) 12)) (f (rdQB m c 2) (rdOB m c 2) 6))
    (f (rdQB m c 1) (rdOB m c 1) 14)) (f (rdQA m c 2) (rdOA m c 2) 4)) (f (rdQA m c 3) (rdOA m c 3) 8)) (f (rdQB m c 3) (rdOB m c 3) 10)

theorem first_two0 (c : Dev nD) : v335 m c = addf (product0 m c (rdQA m c 0) (rdOA m c 0) 0) (product0 m c (rdQB m c 0) (rdOB m c 0) 2) := rfl
theorem first_two1 (c : Dev nD) : v336 m c = addf (product1 m c (rdQA m c 0) (rdOA m c 0) 0) (product1 m c (rdQB m c 0) (rdOB m c 0) 2) := rfl
theorem third0 (c : Dev nD) : v479 m c = addf (v335 m c) (product0 m c (rdQA m c 1) (rdOA m c 1) 12) := rfl
theorem third1 (c : Dev nD) : v480 m c = addf (v336 m c) (product1 m c (rdQA m c 1) (rdOA m c 1) 12) := rfl
theorem fourth0 (c : Dev nD) : v551 m c = addf (v479 m c) (product0 m c (rdQB m c 2) (rdOB m c 2) 6) := rfl
theorem fourth1 (c : Dev nD) : v552 m c = addf (v480 m c) (product1 m c (rdQB m c 2) (rdOB m c 2) 6) := rfl
theorem fifth0 (c : Dev nD) : v639 m c = addf (v551 m c) (product0 m c (rdQB m c 1) (rdOB m c 1) 14) := rfl
theorem fifth1 (c : Dev nD) : v640 m c = addf (v552 m c) (product1 m c (rdQB m c 1) (rdOB m c 1) 14) := rfl
theorem sixth0 (c : Dev nD) : v727 m c = addf (v639 m c) (product0 m c (rdQA m c 2) (rdOA m c 2) 4) := rfl
theorem sixth1 (c : Dev nD) : v728 m c = addf (v640 m c) (product1 m c (rdQA m c 2) (rdOA m c 2) 4) := rfl
theorem seventh0 (c : Dev nD) : v815 m c = addf (v727 m c) (product0 m c (rdQA m c 3) (rdOA m c 3) 8) := rfl
theorem seventh1 (c : Dev nD) : v816 m c = addf (v728 m c) (product1 m c (rdQA m c 3) (rdOA m c 3) 8) := rfl
theorem last0 (c : Dev nD) : k0_pay90 (v815 m c) (v836 m c) (v876 m c) (v877 m c) (rdV m c 0 10) (rdV m c 0 11)
    = shapeCast S1x128x512 (addf (v815 m c) (product0 m c (rdQB m c 3) (rdOB m c 3) 10)) shapeCasts_S128x512_S1x128x512 := rfl
theorem last1 (c : Dev nD) : k0_pay91 (v816 m c) (v836 m c) (v876 m c) (rdV m c 1 10) (rdV m c 1 11)
    = shapeCast S1x128x512 (addf (v816 m c) (product1 m c (rdQB m c 3) (rdOB m c 3) 10)) shapeCasts_S128x512_S1x128x512 := rfl

/-- The result block: the eight products of the first batch entry, then those of the second. -/
theorem outAt_eq (c : Dev nD) (i : S2x128x512.Idx) : outAt m c i =
    if (i 0).val = 0 then shapeCast S1x128x512 (eight m (product0 m c) c) shapeCasts_S128x512_S1x128x512 (fun | 0 => (0 : Fin 1) | 1 => (i 1 : Fin 128) | 2 => (i 2 : Fin 512))
    else shapeCast S1x128x512 (eight m (product1 m c) c) shapeCasts_S128x512_S1x128x512 (fun | 0 => (0 : Fin 1) | 1 => (i 1 : Fin 128) | 2 => (i 2 : Fin 512)) := by
  unfold outAt eight
  rw [last0, last1, seventh0, seventh1, sixth0, sixth1, fifth0, fifth1, fourth0, fourth1, third0, third1, first_two0, first_two1]
  rfl

end Cert.RingAttn

end
-- ==== Proof.Arrays.lean ====
/-
What the arrays hold: the staged inputs are the device's own arrays, the loads read their heads and pieces, and
the result array ends at the result block.
-/
module

public import proofs.«01_k».proof.Proof.Run
public import Idealize.ShloMosaic.Lib.Pointwise

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The staged inputs -/

set_option maxRecDepth 4000 in
theorem xIn_apply (c : Dev nD) (i : S2x128x512.Idx) : xIn m c i = m ((c : Thread nD τ).loc main_arg0) i :=
  congrArg (m ((c : Thread nD τ).loc main_arg0)) (funext fun a => Fin.ext (win0_0.rect_emb_val_of_index_zero (0 : Fin 1) a (by revert a; decide) i))
theorem wqIn_apply (c : Dev nD) (i : S512x256.Idx) : wqIn m c i = m ((c : Thread nD τ).loc main_arg1) i :=
  congrArg (m ((c : Thread nD τ).loc main_arg1)) (funext fun a => Fin.ext (win0_1.rect_emb_val_of_index_zero (0 : Fin 1) a (by revert a; decide) i))
theorem kIn_apply (c : Dev nD) (i : S2x128x16x64.Idx) : kIn m c i = m ((c : Thread nD τ).loc main_arg2) i :=
  congrArg (m ((c : Thread nD τ).loc main_arg2)) (funext fun a => Fin.ext (win0_2.rect_emb_val_of_index_zero (0 : Fin 1) a (by revert a; decide) i))
theorem vIn_apply (c : Dev nD) (i : S2x128x16x64.Idx) : vIn m c i = m ((c : Thread nD τ).loc main_arg3) i :=
  congrArg (m ((c : Thread nD τ).loc main_arg3)) (funext fun a => Fin.ext (win0_3.rect_emb_val_of_index_zero (0 : Fin 1) a (by revert a; decide) i))
theorem woIn_apply (c : Dev nD) (i : S256x512.Idx) : woIn m c i = m ((c : Thread nD τ).loc main_arg4) i :=
  congrArg (m ((c : Thread nD τ).loc main_arg4)) (funext fun a => Fin.ext (win0_4.rect_emb_val_of_index_zero (0 : Fin 1) a (by revert a; decide) i))

/-! ## The loads -/

/-- Head `p` of the turned keys is head `p + 4 c` of the keys, round sixteen; -/
theorem rdK_apply (c : Dev nD) (b : Fin 2) (p : ℕ) (hp : p < 16) (t : Fin 128) (d : Fin 64) :
    rdK m c b.val p (ix4 0 t 0 d) = m ((c : Thread nD τ).loc main_arg2) (ix4 b t ⟨(p + 4 * c.val) % 16, Nat.mod_lt _ (by decide)⟩ d) := by
  unfold rdK
  rw [dif_pos ⟨b.isLt, hp⟩]
  refine (kIn_apply m c _).trans (congrArg _ (funext fun a => Fin.ext ?_))
  match a with
  | 0 => exact Nat.add_zero b.val
  | 1 => exact (by omega : 0 + 1 * t.val = t.val)
  | 2 => rfl
  | 3 => exact (by omega : 0 + 1 * d.val = d.val)
/-- and so it is with the values. -/
theorem rdV_apply (c : Dev nD) (b : Fin 2) (p : ℕ) (hp : p < 16) (t : Fin 128) (d : Fin 64) :
    rdV m c b.val p (ix4 0 t 0 d) = m ((c : Thread nD τ).loc main_arg3) (ix4 b t ⟨(p + 4 * c.val) % 16, Nat.mod_lt _ (by decide)⟩ d) := by
  unfold rdV
  rw [dif_pos ⟨b.isLt, hp⟩]
  refine (vIn_apply m c _).trans (congrArg _ (funext fun a => Fin.ext ?_))
  match a with
  | 0 => exact Nat.add_zero b.val
  | 1 => exact (by omega : 0 + 1 * t.val = t.val)
  | 2 => rfl
  | 3 => exact (by omega : 0 + 1 * d.val = d.val)

/-! ## The result array -/

/-- The result array ends at the result block. -/
theorem final_out (c : Dev nD) : finalA m ρ c (5 : Fin 6) = outAt m c := by
  refine funext fun (i : S2x128x512.Idx) => ?_
  have e : (win0_5.rect (0 : Fin 1)).emb i = i := funext fun a => Fin.ext (win0_5.rect_emb_val_of_index_zero (0 : Fin 1) a (by revert a; decide) i)
  have h := (dats (F := F) m ρ 0 c).arrAt_emb_eq_flushed (5 : Fin 6) (fun t t' _ _ ne => absurd (Subsingleton.elim (α := Fin 1) t t') ne) (0 : Fin 1) (flush0_5 _) i
  exact (congrArg (finalA m ρ c (5 : Fin 6)) e.symm).trans h

end Cert.RingAttn

end
-- ==== Proof.Model.lean ====
/-
The mathematics both programs compute, over the extended reals: which keys a query may see, its scores, its
weights, and what one head adds to one element of the result.
-/
module

public import Idealize.ShloMosaic.Lib.Pointwise

@[expose] public section

noncomputable section

namespace Cert.RingAttn

open Idealize.ShloMosaic

/-! ## One head -/

/-- May query row `i` see key `t`? Blocks of 64: the same block, the first block, or block numbers adding up to a multiple of three. -/
def seen (i : Fin 512) (t : Fin 128) : BitVec 1 :=
  BitVec.ofBool (decide (i.val / 64 = t.val / 64 ∨ t.val / 64 = 0 ∨ (i.val / 64 + t.val / 64) % 3 = 0))

/-- The score of a query against a key. -/
def score (ok : BitVec 1) (q k : Fin 64 → EReal) : EReal :=
  Scalar.select ok ((∑ d, q d * k d) * Ideal.ofBits .f32 0x3E000000#32) (Ideal.ofBits .f32 0xCE6E6B28#32)

/-- The exponential of a score less the row's largest. -/
def risen (s : Fin 128 → EReal) (t : Fin 128) : EReal := Ideal.exp (s t - Finset.univ.fold max (Ideal.ofBits .f32 0xFF800000#32) s)

/-- The weight of a key: its exponential over the row's sum. -/
def weight (s : Fin 128 → EReal) (t : Fin 128) : EReal := Ideal.div (risen s t) (∑ u, risen s u)

/-- What one head adds to one element of the result: the weighted values against a column of the head's rows of `Wo`. -/
def headTerm (ok : Fin 128 → BitVec 1) (q : Fin 64 → EReal) (k v : Fin 128 → Fin 64 → EReal) (wo : Fin 64 → EReal) : EReal :=
  ∑ d, (∑ t, weight (fun u => score (ok u) q (k u)) t * v t d) * wo d

/-! ## The whole -/

/-- Place `d` of head `h` among the 1024 columns of the projection. -/
def place (h : Fin 16) (d : Fin 64) : Fin 1024 := ⟨64 * h.val + d.val, by omega⟩

/-- What head `h` adds to element `(b, i, n)` of the result, from the whole arrays. -/
def headAt (x : (⟨3, ![2, 512, 512]⟩ : Shape).Idx → EReal) (wq : (⟨2, ![512, 1024]⟩ : Shape).Idx → EReal) (k v : (⟨4, ![2, 128, 16, 64]⟩ : Shape).Idx → EReal)
    (wo : (⟨2, ![1024, 512]⟩ : Shape).Idx → EReal) (b : Fin 2) (i n : Fin 512) (h : Fin 16) : EReal :=
  headTerm (seen i) (fun d => ∑ e : Fin 512, x (ix3 b i e) * wq (ix2 e (place h d))) (fun t d => k (ix4 b t h d)) (fun t d => v (ix4 b t h d)) (fun d => wo (ix2 (place h d) n))

/-- The attention: the sixteen heads added up. -/
def attention (x : (⟨3, ![2, 512, 512]⟩ : Shape).Idx → EReal) (wq : (⟨2, ![512, 1024]⟩ : Shape).Idx → EReal) (k v : (⟨4, ![2, 128, 16, 64]⟩ : Shape).Idx → EReal)
    (wo : (⟨2, ![1024, 512]⟩ : Shape).Idx → EReal) : (⟨3, ![2, 512, 512]⟩ : Shape).Idx → EReal := fun j => ∑ h, headAt x wq k v wo (j 0) (j 1) (j 2) h

end Cert.RingAttn

end
-- ==== Proof.Heads.lean ====
/-
What one product adds, element by element: the scores, the weights and the mixed values read down to the
extended reals, so that a product is two heads' terms.
-/
module

public import proofs.«01_k».proof.Proof.Blocks
public import proofs.«01_k».proof.Proof.Arrays
public import proofs.«01_k».proof.Proof.Model

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mask -/

/-- Rounding a row or key number down to its block of 64, as the program computes it. -/
theorem floor64 : ∀ a : Fin 128,
    Scalar.select
      (IntOp.andi
        (IntOp.cmpi CmpIPredicate.ne
          (IntOp.subi (BitVec.setWidth 32 (IntOp.cmpi CmpIPredicate.sgt (BitVec.ofNat 32 a.val) 0#32)) (BitVec.setWidth 32 (IntOp.cmpi CmpIPredicate.slt (BitVec.ofNat 32 a.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by decide +kernel

/-- The mask's three tests on block numbers. -/
theorem seen_words : ∀ (c : Dev nD) (x y : Fin 2),
    IntOp.ori (IntOp.ori (IntOp.cmpi CmpIPredicate.eq (IntOp.addi (v129 c) (BitVec.ofNat 32 x.val)) (BitVec.ofNat 32 y.val)) (IntOp.cmpi CmpIPredicate.eq (BitVec.ofNat 32 y.val) 0#32))
      (IntOp.cmpi CmpIPredicate.eq (IntOp.remsi ArithUnit.vector (IntOp.addi (IntOp.addi (v129 c) (BitVec.ofNat 32 x.val)) (BitVec.ofNat 32 y.val)) 3#32) 0#32)
      = BitVec.ofBool (decide (2 * c.val + x.val = y.val ∨ y.val = 0 ∨ (2 * c.val + x.val + y.val) % 3 = 0)) := by decide +kernel

/-- Row `r` of a device's block is row `128 c + r` of the whole. -/
def rowOf (c : Dev nD) (r : Fin 128) : Fin 512 := ⟨128 * c.val + r.val, by have : c.val < 4 := c.isLt; omega⟩

/-- The mask, in each of its four copies, admits the keys the query may see. -/
theorem mask_apply (c : Dev nD) (b j : Fin 2) (r t : Fin 128) : v194 c (ix2 ⟨128 * (2 * b.val + j.val) + r.val, by omega⟩ t) = seen (rowOf c r) t := by
  have h1 := floor64 r
  have h2 := floor64 t
  have h3 := seen_words c ⟨r.val / 64, by omega⟩ ⟨t.val / 64, by omega⟩
  have h4 : seen (rowOf c r) t = BitVec.ofBool (decide (2 * c.val + r.val / 64 = t.val / 64 ∨ t.val / 64 = 0 ∨ (2 * c.val + r.val / 64 + t.val / 64) % 3 = 0)) := by
    unfold seen rowOf
    rw [show (128 * c.val + r.val) / 64 = 2 * c.val + r.val / 64 by omega]
  rw [h4]
  refine Eq.trans ?_ h3
  dsimp only
  rw [← h1, ← h2]
  match b, j with
  | 0, 0 => pointwise [v194, v128, k0_pay22, k0_pay23, k0_pay24, k0_pay26]
  | 0, 1 => pointwise [v194, v128, k0_pay22, k0_pay23, k0_pay24, k0_pay26]
  | 1, 0 =>
    pointwise [v194, v128, k0_pay22, k0_pay23, k0_pay24, k0_pay26]
    rw [dif_neg (by omega), dif_neg (by omega), dif_pos (by omega)]
    simp only [show 256 + r.val - 128 - 128 = r.val by omega]
  | 1, 1 =>
    pointwise [v194, v128, k0_pay22, k0_pay23, k0_pay24, k0_pay26]
    rw [dif_neg (by omega), dif_neg (by omega), dif_neg (by omega)]
    simp only [show 384 + r.val - 128 - 128 - 128 = r.val by omega]

/-! ## The steps -/

/-- The projected queries; -/
theorem proj_apply (x : FVec Ideal S256x512 .bf16) (wq : Vec Ideal S1x512x128 .bf16) (r : Fin 256) (e : Fin 128) :
    proj x wq (ix2 r e) = ∑ k : Fin 512, (x (ix2 r k) : EReal) * wq (ix3 0 k e) := by
  pointwise [proj]

/-- the weights of a row of scores; -/
theorem normed_apply (s : FVec Ideal S512x128 .f32) (r : Fin 512) (t : Fin 128) :
    normed (expo s) (ix2 r t) = weight (fun u => s (ix2 r u)) t := by
  pointwise [normed, expo]
  rfl

/-- the scores, in each of the four blocks of 128 rows; -/
theorem scores_apply (msk : IVec S512x128 1) (q : FVec Ideal S256x128 .f32) (k : Fin 2 → Fin 2 → Vec Ideal S1x128x1x64 .f32) (b j : Fin 2) (r t : Fin 128) :
    scores msk (dots q (k 0 0) (k 0 1) (k 1 0) (k 1 1)) (ix2 ⟨128 * (2 * b.val + j.val) + r.val, by omega⟩ t)
      = score (msk (ix2 ⟨128 * (2 * b.val + j.val) + r.val, by omega⟩ t)) (fun d => q (ix2 ⟨128 * b.val + r.val, by omega⟩ ⟨64 * j.val + d.val, by omega⟩)) (fun d => k b j (ix4 0 t 0 d)) := by
  unfold score
  match b, j with
  | 0, 0 => pointwise [scores, dots, against, headOf]
  | 0, 1 => pointwise [scores, dots, against, headOf]
  | 1, 0 =>
    pointwise [scores, dots, against, headOf]
    rw [dif_neg (by omega), dif_neg (by omega), dif_pos (by omega)]
    simp only [show 256 + r.val - 128 - 128 = r.val by omega]
  | 1, 1 =>
    pointwise [scores, dots, against, headOf]
    rw [dif_neg (by omega), dif_neg (by omega), dif_neg (by omega)]
    simp only [show 384 + r.val - 128 - 128 - 128 = r.val by omega]

/-- and the mixed values times the rows of `Wo`, for two heads. -/
theorem mixed_apply (wa wb : FVec Ideal S128x128 .bf16) (va vb : Vec Ideal S1x128x1x64 .f32) (wo : Vec Ideal S1x128x512 .bf16) (r : Fin 128) (n : Fin 512) :
    mixed wa wb va vb wo (ix2 r n)
      = ∑ d : Fin 64, (∑ t : Fin 128, (wa (ix2 r t) : EReal) * va (ix4 0 t 0 d)) * wo (ix3 0 ⟨64 * (0 : Fin 2).val + d.val, by omega⟩ n)
        + ∑ d : Fin 64, (∑ t : Fin 128, (wb (ix2 r t) : EReal) * vb (ix4 0 t 0 d)) * wo (ix3 0 ⟨64 * (1 : Fin 2).val + d.val, by omega⟩ n) := by
  pointwise [mixed, headOf]

/-! ## The arguments -/

variable (m : (ℓ : Loc nD τ sig) → Buf (Elt Ideal) ℓ)

/-- A device's block of the input, -/
def ofX (c : Dev nD) : S2x128x512.Idx → EReal := m ((c : Thread nD τ).loc main_arg0)
/-- its columns of `Wq`, -/
def ofWq (c : Dev nD) : S512x256.Idx → EReal := m ((c : Thread nD τ).loc main_arg1)
/-- its keys, -/
def ofK (c : Dev nD) : S2x128x16x64.Idx → EReal := m ((c : Thread nD τ).loc main_arg2)
/-- its values, -/
def ofV (c : Dev nD) : S2x128x16x64.Idx → EReal := m ((c : Thread nD τ).loc main_arg3)
/-- and its rows of `Wo`. -/
def ofWo (c : Dev nD) : S256x512.Idx → EReal := m ((c : Thread nD τ).loc main_arg4)

/-- The rows of the queries: batch entry `b` lies in rows `128 b` and after. -/
theorem queries_apply (c : Dev nD) (b : Fin 2) (r : Fin 128) (t : Fin 512) :
    v193 m c (ix2 ⟨128 * b.val + r.val, by omega⟩ t) = ofX m c (ix3 b r t) := by
  refine Eq.trans ?_ (xIn_apply m c _)
  match b with
  | 0 =>
    pointwise [v193, rdX, k0_pay25]
    exact congrArg₂ (fun g s => xIn m c (ix3 g s t)) (Fin.ext (by simp)) (Fin.ext (by simp))
  | 1 =>
    pointwise [v193, rdX, k0_pay25]
    exact congrArg (fun g => xIn m c (ix3 g r t)) (Fin.ext (by simp))

/-! ## One product -/

/-- The four heads of keys that a product reads. -/
def fourK (c : Dev nD) (p : ℕ) (b j : Fin 2) : Vec Ideal S1x128x1x64 .f32 := rdK m c b.val (p + j.val)

/-- The weights of a product: those of head `p + j`, batch entry `b`, in rows `128 (2 b + j)` and after. -/
theorem weights_apply (c : Dev nD) (wq : Vec Ideal S1x512x128 .bf16) (p : ℕ) (hp : p + 1 < 16) (b j : Fin 2) (r t : Fin 128) :
    weights m c wq p (ix2 ⟨128 * (2 * b.val + j.val) + r.val, by omega⟩ t)
      = weight (fun u => score (seen (rowOf c r) u)
          (fun d => ∑ e : Fin 512, ofX m c (ix3 b r e) * wq (ix3 0 e ⟨64 * j.val + d.val, by omega⟩))
          (fun d => ofK m c (ix4 b u ⟨(p + j.val + 4 * c.val) % 16, Nat.mod_lt _ (by decide)⟩ d))) t := by
  unfold weights
  rw [normed_apply]
  refine congrArg (fun s => weight s t) (funext fun u => ?_)
  refine (scores_apply (v194 c) _ (fourK m c p) b j r u).trans ?_
  rw [mask_apply]
  refine congrArg₂ (score _) (funext fun d => ?_) (funext fun d => rdK_apply m c b (p + j.val) (by omega) u d)
  exact (proj_apply _ _ _ _).trans (Finset.sum_congr rfl fun e _ => congrArg (· * _) (queries_apply m c b r e))

/-- One head's term of a product: head `p + j`, batch entry `b`. -/
def termOf (c : Dev nD) (b : Fin 2) (wq : Vec Ideal S1x512x128 .bf16) (wo : Vec Ideal S1x128x512 .bf16) (p : ℕ) (r : Fin 128) (n : Fin 512) (j : Fin 2) : EReal :=
  headTerm (seen (rowOf c r))
    (fun d => ∑ e : Fin 512, ofX m c (ix3 b r e) * wq (ix3 0 e ⟨64 * j.val + d.val, by omega⟩))
    (fun t d => ofK m c (ix4 b t ⟨(p + j.val + 4 * c.val) % 16, Nat.mod_lt _ (by decide)⟩ d))
    (fun t d => ofV m c (ix4 b t ⟨(p + j.val + 4 * c.val) % 16, Nat.mod_lt _ (by decide)⟩ d))
    (fun d => wo (ix3 0 ⟨64 * j.val + d.val, by omega⟩ n))

/-- The product of either batch entry. -/
def product (c : Dev nD) (b : Fin 2) : Vec Ideal S1x512x128 .bf16 → Vec Ideal S1x128x512 .bf16 → ℕ → FVec Ideal S128x512 .f32 := match b with
  | 0 => product0 m c
  | 1 => product1 m c

/-- One head's half of the mixed product is its term. -/
theorem half_term (c : Dev nD) (b : Fin 2) (wq : Vec Ideal S1x512x128 .bf16) (wo : Vec Ideal S1x128x512 .bf16) (p : ℕ) (hp : p + 1 < 16) (r : Fin 128) (n : Fin 512) (j : Fin 2)
    (w : FVec Ideal S128x128 .bf16) (hw : ∀ t, w (ix2 r t) = weights m c wq p (ix2 ⟨128 * (2 * b.val + j.val) + r.val, by omega⟩ t)) :
    ∑ d : Fin 64, (∑ t : Fin 128, (w (ix2 r t) : EReal) * rdV m c b.val (p + j.val) (ix4 0 t 0 d)) * wo (ix3 0 ⟨64 * j.val + d.val, by omega⟩ n) = termOf m c b wq wo p r n j :=
  Finset.sum_congr rfl fun d _ => congrArg (· * _) (Finset.sum_congr rfl fun t _ =>
    congrArg₂ (· * ·) ((hw t).trans (weights_apply m c wq p hp b j r t)) (rdV_apply m c b (p + j.val) (by omega) t d))

/-- A product is its two heads' terms. -/
theorem product_apply (c : Dev nD) (b : Fin 2) (wq : Vec Ideal S1x512x128 .bf16) (wo : Vec Ideal S1x128x512 .bf16) (p : ℕ) (hp : p + 1 < 16) (r : Fin 128) (n : Fin 512) :
    product m c b wq wo p (ix2 r n) = termOf m c b wq wo p r n 0 + termOf m c b wq wo p r n 1 := by
  match b with
  | 0 => exact (mixed_apply _ _ _ _ _ r n).trans (congrArg₂ (· + ·)
      (half_term m c 0 wq wo p hp r n 0 _ fun t => by pointwise) (half_term m c 0 wq wo p hp r n 1 _ fun t => by pointwise))
  | 1 => exact (mixed_apply _ _ _ _ _ r n).trans (congrArg₂ (· + ·)
      (half_term m c 1 wq wo p hp r n 0 _ fun t => by pointwise) (half_term m c 1 wq wo p hp r n 1 _ fun t => by pointwise))

end Cert.RingAttn

end
-- ==== Proof.Gather.lean ====
/-
The result block is the device's rows of the attention of the whole arrays: the pieces that travelled are the
owners' heads, each product is two heads of the attention, and the eight products are all sixteen.
-/
module

public import proofs.«01_k».proof.Proof.Heads

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-! ## The pieces -/

/-- Half `o` of a device's columns of `Wq`, as it travels, -/
def pieceQ (d : Dev nD) (o : Fin 2) : Vec Ideal S1x512x128 .bf16 := match o with
  | 0 => wqAp m d
  | 1 => wqBp m d
/-- and half `o` of its rows of `Wo`. -/
def pieceO (d : Dev nD) (o : Fin 2) : Vec Ideal S1x128x512 .bf16 := match o with
  | 0 => woAp m d
  | 1 => woBp m d

theorem pieceQ_apply (d : Dev nD) (o : Fin 2) (e : Fin 512) (k : Fin 128) : pieceQ m d o (ix3 0 e k) = ofWq m d (ix2 e ⟨128 * o.val + k.val, by omega⟩) := by
  refine Eq.trans ?_ (wqIn_apply m d _)
  match o with
  | 0 => pointwise [pieceQ, wqAp, k0_pay1, k0_pay3]
  | 1 => pointwise [pieceQ, wqBp, k0_pay1, k0_pay4]
theorem pieceO_apply (d : Dev nD) (o : Fin 2) (k : Fin 128) (n : Fin 512) : pieceO m d o (ix3 0 k n) = ofWo m d (ix2 ⟨128 * o.val + k.val, by omega⟩ n) := by
  refine Eq.trans ?_ (woIn_apply m d _)
  match o with
  | 0 => pointwise [pieceO, woAp, k0_pay2, k0_pay5, k0_pay6]
  | 1 => pointwise [pieceO, woBp, k0_pay2, k0_pay7]

/-! ## The whole arrays -/

/-- The devices' arguments are blocks of whole arrays: rows of the input, columns of `Wq`, rows of `Wo`; keys and values are whole. -/
structure Whole (x : (⟨3, ![2, 512, 512]⟩ : Shape).Idx → EReal) (wq : (⟨2, ![512, 1024]⟩ : Shape).Idx → EReal) (k v : (⟨4, ![2, 128, 16, 64]⟩ : Shape).Idx → EReal)
    (wo : (⟨2, ![1024, 512]⟩ : Shape).Idx → EReal) : Prop where
  x : ∀ (c : Dev nD) (b : Fin 2) (r : Fin 128) (e : Fin 512), ofX m c (ix3 b r e) = x (ix3 b (rowOf c r) e)
  wq : ∀ (d : Dev nD) (e : Fin 512) (q : Fin 256) (h : 256 * d.val + q.val < 1024), ofWq m d (ix2 e q) = wq (ix2 e ⟨256 * d.val + q.val, h⟩)
  k : ∀ c : Dev nD, ofK m c = k
  v : ∀ c : Dev nD, ofV m c = v
  wo : ∀ (d : Dev nD) (q : Fin 256) (n : Fin 512) (h : 256 * d.val + q.val < 1024), ofWo m d (ix2 q n) = wo (ix2 ⟨256 * d.val + q.val, h⟩ n)

variable {m}
variable {x : (⟨3, ![2, 512, 512]⟩ : Shape).Idx → EReal} {wq : (⟨2, ![512, 1024]⟩ : Shape).Idx → EReal} {k v : (⟨4, ![2, 128, 16, 64]⟩ : Shape).Idx → EReal}
variable {wo : (⟨2, ![1024, 512]⟩ : Shape).Idx → EReal}

/-- Head `j` of half `o` of device `d`. -/
def headNo (d : Dev nD) (o j : Fin 2) : Fin 16 := ⟨4 * d.val + 2 * o.val + j.val, by have : d.val < 4 := d.isLt; omega⟩

/-- A product that meets the right heads of keys gives terms of the attention. -/
theorem term_eq (W : Whole m x wq k v wo) (c d : Dev nD) (b o j : Fin 2) (p : ℕ) (hp : (p + 4 * c.val) % 16 = 4 * d.val + 2 * o.val) (r : Fin 128) (n : Fin 512) :
    termOf m c b (pieceQ m d o) (pieceO m d o) p r n j = headAt x wq k v wo b (rowOf c r) n (headNo d o j) := by
  have hd : d.val < 4 := d.isLt
  have eh : (⟨(p + j.val + 4 * c.val) % 16, Nat.mod_lt _ (by decide)⟩ : Fin 16) = headNo d o j := Fin.ext (by show (p + j.val + 4 * c.val) % 16 = 4 * d.val + 2 * o.val + j.val; omega)
  unfold termOf headAt
  rw [eh, W.k, W.v]
  congr 1
  · funext t
    refine Finset.sum_congr rfl fun e _ => ?_
    rw [W.x, pieceQ_apply, W.wq _ _ _ (by dsimp only; omega)]
    refine congrArg (fun q => x _ * wq (ix2 e q)) (Fin.ext ?_)
    show 256 * d.val + (128 * o.val + (64 * j.val + t.val)) = 64 * (4 * d.val + 2 * o.val + j.val) + t.val
    omega
  · funext t
    rw [pieceO_apply, W.wo _ _ _ (by dsimp only; omega)]
    refine congrArg (fun q => wo (ix2 q n)) (Fin.ext ?_)
    show 256 * d.val + (128 * o.val + (64 * j.val + t.val)) = 64 * (4 * d.val + 2 * o.val + j.val) + t.val
    omega

/-- The two heads of half `o` of device `d`, together. -/
def pair (g : Fin 16 → EReal) (d : Dev nD) (o : Fin 2) : EReal := g (headNo d o 0) + g (headNo d o 1)

/-- A product, as a pair of heads of the attention. -/
theorem product_eq (W : Whole m x wq k v wo) (c d : Dev nD) (b o : Fin 2) (p : ℕ) (hp1 : p + 1 < 16) (hp : (p + 4 * c.val) % 16 = 4 * d.val + 2 * o.val) (r : Fin 128) (n : Fin 512) :
    product m c b (pieceQ m d o) (pieceO m d o) p (ix2 r n) = pair (headAt x wq k v wo b (rowOf c r) n) d o := by
  rw [product_apply m c b _ _ p hp1, term_eq W c d b o 0 p hp, term_eq W c d b o 1 p hp]
  rfl

/-- The eight pairs in the order in which they arrive are all sixteen heads. -/
theorem pairs_sum (g : Fin 16 → EReal) (c : Dev nD) :
    pair g c 0 + pair g c 1 + pair g (prv c) 0 + pair g (nxt c) 1 + pair g (prv c) 1 + pair g (nxt c) 0 + pair g (nxt (nxt c)) 0 + pair g (nxt (nxt c)) 1 = ∑ h, g h := by
  have e : ∑ h, g h = pair g 0 0 + pair g 0 1 + (pair g 1 0 + pair g 1 1) + (pair g 2 0 + pair g 2 1) + (pair g 3 0 + pair g 3 1) := by
    simp only [Fin.sum_univ_succ, Fin.sum_univ_zero, add_zero, pair, add_assoc]
    rfl
  rw [e]
  match c with
  | 0 => show pair g 0 0 + pair g 0 1 + pair g 3 0 + pair g 1 1 + pair g 3 1 + pair g 1 0 + pair g 2 0 + pair g 2 1 = _; abel
  | 1 => show pair g 1 0 + pair g 1 1 + pair g 0 0 + pair g 2 1 + pair g 0 1 + pair g 2 0 + pair g 3 0 + pair g 3 1 = _; abel
  | 2 => show pair g 2 0 + pair g 2 1 + pair g 1 0 + pair g 3 1 + pair g 1 1 + pair g 3 0 + pair g 0 0 + pair g 0 1 = _; abel
  | 3 => show pair g 3 0 + pair g 3 1 + pair g 2 0 + pair g 0 1 + pair g 2 1 + pair g 0 0 + pair g 1 0 + pair g 1 1 = _; abel

/-- The eight products of a batch entry are the attention's row. -/
theorem eight_apply (W : Whole m x wq k v wo) (c : Dev nD) (b : Fin 2) (r : Fin 128) (n : Fin 512) :
    eight m (product m c b) c (ix2 r n) = attention x wq k v wo (ix3 b (rowOf c r) n) := by
  refine Eq.trans ?_ (pairs_sum (headAt x wq k v wo b (rowOf c r) n) c)
  have hs : ∀ c : Dev nD, (prv c).val = (c.val + 3) % 4 ∧ (nxt c).val = (c.val + 1) % 4 ∧ (nxt (nxt c)).val = (c.val + 2) % 4 ∧ c.val < 4 := by decide
  obtain ⟨h1, h2, h3, h4⟩ := hs c
  exact congrArg₂ (· + ·) (congrArg₂ (· + ·) (congrArg₂ (· + ·) (congrArg₂ (· + ·) (congrArg₂ (· + ·) (congrArg₂ (· + ·) (congrArg₂ (· + ·)
    (product_eq W c c b 0 0 (by omega) (by simp; omega) r n) (product_eq W c c b 1 2 (by omega) (by simp; omega) r n))
    (product_eq W c (prv c) b 0 12 (by omega) (by simp; omega) r n)) (product_eq W c (nxt c) b 1 6 (by omega) (by simp; omega) r n))
    (product_eq W c (prv c) b 1 14 (by omega) (by simp; omega) r n)) (product_eq W c (nxt c) b 0 4 (by omega) (by simp; omega) r n))
    (product_eq W c (nxt (nxt c)) b 0 8 (by omega) (by simp; omega) r n)) (product_eq W c (nxt (nxt c)) b 1 10 (by omega) (by simp; omega) r n)

/-- A batch entry of the result block, read at its rows. -/
theorem entry_apply (y : FVec Ideal S128x512 .f32) (r : Fin 128) (n : Fin 512) : shapeCast S1x128x512 y shapeCasts_S128x512_S1x128x512 (ix3 0 r n) = y (ix2 r n) := by
  pointwise

/-- The result block is the device's rows of the attention. -/
theorem outAt_apply (W : Whole m x wq k v wo) (c : Dev nD) (b : Fin 2) (r : Fin 128) (n : Fin 512) :
    outAt m c (ix3 b r n) = attention x wq k v wo (ix3 b (rowOf c r) n) := by
  have e : (fun | 0 => (0 : Fin 1) | 1 => r | 2 => n : S1x128x512.Idx) = ix3 0 r n := funext fun a => by
    match a with
    | 0 => rfl
    | 1 => rfl
    | 2 => rfl
  rw [outAt_eq, ← eight_apply W]
  match b with
  | 0 => exact (if_pos rfl).trans ((congrArg (shapeCast S1x128x512 (eight m (product0 m c) c) shapeCasts_S128x512_S1x128x512) e).trans (entry_apply _ r n))
  | 1 => exact (if_neg (by show ¬ 1 = 0; decide)).trans ((congrArg (shapeCast S1x128x512 (eight m (product1 m c) c) shapeCasts_S128x512_S1x128x512) e).trans (entry_apply _ r n))

end Cert.RingAttn

end
-- ==== Proof.Reference.lean ====
/-
The reference, step by step, read at an index: its mask admits the keys a query may see, every query sees the
first key, its scores and weights are those of one head, and its result is the attention.
-/
module

public import proofs.«01_k».proof.Proof.Gen.ReferenceIdeal.Run
public import proofs.«01_k».proof.Proof.Model

@[expose] public section

noncomputable section

namespace Cert.RingAttn.Ref

open Cert.ReferenceIdeal Cert.ReferenceIdeal.Gen
open Idealize.ShloMosaic
open Idealize.ShloMosaic.TcCoe

variable {F : FTy → Type} [FloatOps F]

/-! ## The mask -/

/-- The block of 64 each query row lies in, -/
def refRows : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- and the block each key lies in. -/
def refKeys : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32))) (broadcastInDim S128 ![] bcast_S_S128 (constantI S_ 32 0#32))))
    (subi (Host.divsi (iotaInDim S128 32 0) (broadcastInDim S128 ![] bcast_S_S128 (constantI S_ 32 64#32))) (broadcastInDim S128 ![] bcast_S_S128 (constantI S_ 32 1#32)))
    (Host.divsi (iotaInDim S128 32 0) (broadcastInDim S128 ![] bcast_S_S128 (constantI S_ 32 64#32)))

/-- The row blocks over the whole square, -/
def wideRows : IVec S512x128 32 := broadcastInDim S512x128 ![0, 1] bcast_S512x1_S512x128_0_1 (broadcastInDim S512x1 ![0] bcast_S512_S512x1_0 refRows)
/-- the key blocks as one row, -/
def oneKeys : IVec S1x128 32 := broadcastInDim S1x128 ![1] bcast_S128_S1x128_1 refKeys
/-- and over the whole square. -/
def wideKeys : IVec S512x128 32 := broadcastInDim S512x128 ![0, 1] bcast_S1x128_S512x128_0_1 oneKeys
/-- The divisor three, as the remainder takes it, -/
def three : IVec S_ 32 := select (cmpi .eq (constantI S_ 32 3#32) (constantI S_ 32 0#32)) (constantI S_ 32 1#32) (constantI S_ 32 3#32)
/-- and the remainder of the sum of the blocks before its sign is mended. -/
def rest3 : IVec S512x128 32 := Host.remsi (addi wideRows wideKeys) (broadcastInDim S512x128 ![] bcast_S_S512x128 three)

/-- The mask. -/
def refMask : IVec S512x128 1 :=
  ori (ori (cmpi .eq wideRows wideKeys) (broadcastInDim S512x128 ![0, 1] bcast_S1x128_S512x128_0_1 (cmpi .eq oneKeys (broadcastInDim S1x128 ![] bcast_S_S1x128 (constantI S_ 32 0#32)))))
    (cmpi .eq (select (andi (cmpi .ne (cmpi .slt rest3 (broadcastInDim S512x128 ![] bcast_S_S512x128 (constantI S_ 32 0#32))) (broadcastInDim S512x128 ![] bcast_S_S512x128 (cmpi .slt three (constantI S_ 32 0#32))))
      (cmpi .ne rest3 (broadcastInDim S512x128 ![] bcast_S_S512x128 (constantI S_ 32 0#32)))) (addi rest3 (broadcastInDim S512x128 ![] bcast_S_S512x128 three)) rest3)
      (broadcastInDim S512x128 ![] bcast_S_S512x128 (constantI S_ 32 0#32)))

/-- Does a query see any key? -/
def refAny : IVec S1x1x512x1 1 := broadcastInDim S1x1x512x1 ![2] bcast_S512_S1x1x512x1_2 (Host.reduce IntOp.ori refMask (constantI S_ 1 0#1) reducesTo_S512x128_S512_d1 h_S_)

/-! ## The attention -/

/-- The scores, masked, -/
def refScores (x : FVec F S2x512x512 .f32) (wq : FVec F S512x1024 .f32) (k : FVec F S2x128x16x64 .f32) : FVec F S2x16x512x128 .f32 :=
  select (broadcastInDim S2x16x512x128 ![0, 1, 2, 3] bcast_S1x1x512x128_S2x16x512x128_0_1_2_3 (broadcastInDim S1x1x512x128 ![2, 3] bcast_S512x128_S1x1x512x128_2_3 refMask))
    (mulf (Host.dotGeneral dot_S2x512x16x64_S2x128x16x64_S2x16x512x128_3_3_1_1_02_02 none
        (shapeCast _ (Host.dotGeneral dot_S2x512x512_S512x1024_S2x512x1024_2_0_01_1_n_n none x wq) shapeCasts_S2x512x1024_S2x512x16x64) k)
      (broadcastInDim S2x16x512x128 ![] bcast_S_S2x16x512x128 (constant S_ .f32 0x3E000000#32)))
    (broadcastInDim S2x16x512x128 ![] bcast_S_S2x16x512x128 (constant S_ .f32 0xCE6E6B28#32))

/-- their exponentials less the row's largest, -/
def refRisen (s : FVec F S2x16x512x128 .f32) : FVec F S2x16x512x128 .f32 :=
  Host.exp (subf s (broadcastInDim S2x16x512x128 ![0, 1, 2, 3] bcast_S2x16x512x1_S2x16x512x128_0_1_2_3 (broadcastInDim S2x16x512x1 ![0, 1, 2] bcast_S2x16x512_S2x16x512x1_0_1_2
    (Host.reduce FloatOps.maximumf s (constant S_ .f32 0xFF800000#32) reducesTo_S2x16x512x128_S2x16x512_d3 h_S_))))

/-- the weights, -/
def refWeights (e : FVec F S2x16x512x128 .f32) : FVec F S2x16x512x128 .f32 :=
  select (broadcastInDim S2x16x512x128 ![0, 1, 2, 3] bcast_S1x1x512x1_S2x16x512x128_0_1_2_3 refAny)
    (Host.divf e (broadcastInDim S2x16x512x128 ![0, 1, 2, 3] bcast_S2x16x512x1_S2x16x512x128_0_1_2_3
      (select (broadcastInDim S2x16x512x1 ![0, 1, 2, 3] bcast_S1x1x512x1_S2x16x512x1_0_1_2_3 refAny)
        (broadcastInDim S2x16x512x1 ![0, 1, 2] bcast_S2x16x512_S2x16x512x1_0_1_2 (Host.reduceAdd e (constant S_ .f32 0x00000000#32) reducesTo_S2x16x512x128_S2x16x512_d3 h_S_))
        (broadcastInDim S2x16x512x1 ![] bcast_S_S2x16x512x1 (constant S_ .f32 0x3F800000#32)))))
    (broadcastInDim S2x16x512x128 ![] bcast_S_S2x16x512x128 (constant S_ .f32 0x00000000#32))

/-- and the weighted values against `Wo`. -/
def refMixed (w : FVec F S2x16x512x128 .f32) (v : FVec F S2x128x16x64 .f32) (wo : FVec F S1024x512 .f32) : FVec F S2x512x512 .f32 :=
  Host.dotGeneral dot_S2x512x1024_S1024x512_S2x512x512_2_0_01_1_n_n none
    (shapeCast _ (transpose S2x512x16x64 [0, 3, 1, 2] (Host.dotGeneral dot_S2x128x16x64_S2x16x512x128_S2x16x64x512_1_3_3_2_02_01 none v w) transposes_S2x16x64x512_S2x512x16x64_0_3_1_2)
      shapeCasts_S2x512x16x64_S2x512x1024) wo

/-- The reference's result is these steps. -/
theorem result_eq (m : (ℓ : Loc nD τ sig) → Buf (Elt F) ℓ) (c : Dev nD) :
    Value.res_main_v44 m c = refMixed (refWeights (refRisen (refScores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

/-! ## At an index -/

theorem refRows_apply (i : Fin 512) : refRows (ix1 i) = BitVec.ofNat 32 (i.val / 64) := by
  pointwise [refRows]
  revert i
  decide +kernel
theorem refKeys_apply (t : Fin 128) : refKeys (ix1 t) = BitVec.ofNat 32 (t.val / 64) := by
  pointwise [refKeys]
  revert t
  decide +kernel

/-- The reference's three tests on block numbers. -/
theorem ref_words : ∀ (x : Fin 8) (y : Fin 2), refMask (ix2 ⟨64 * x.val, by omega⟩ ⟨64 * y.val, by omega⟩) = BitVec.ofBool (decide (x.val = y.val ∨ y.val = 0 ∨ (x.val + y.val) % 3 = 0)) := by
  intro x y
  pointwise [refMask, rest3, three, wideKeys, wideRows, oneKeys]
  rw [refRows_apply, refKeys_apply]
  revert x y
  decide +kernel

/-- The mask depends on the blocks only, -/
theorem refMask_congr (i i' : Fin 512) (t t' : Fin 128) (hi : i.val / 64 = i'.val / 64) (ht : t.val / 64 = t'.val / 64) : refMask (ix2 i t) = refMask (ix2 i' t') := by
  pointwise [refMask, rest3, three, wideKeys, wideRows, oneKeys]
  rw [refRows_apply, refKeys_apply, refRows_apply, refKeys_apply, hi, ht]

/-- and admits the keys the query may see. -/
theorem refMask_apply (i : Fin 512) (t : Fin 128) : refMask (ix2 i t) = seen i t :=
  (refMask_congr i ⟨64 * (i.val / 64), by omega⟩ t ⟨64 * (t.val / 64), by omega⟩ (by dsimp only; omega) (by dsimp only; omega)).trans
    (ref_words ⟨i.val / 64, by omega⟩ ⟨t.val / 64, by omega⟩)

/-- Every query sees a key, since all see the first. -/
theorem refAny_apply (i : Fin 512) : refAny (ix4 0 0 i 0) = 1#1 := by
  pointwise [refAny]
  rw [← Finset.insert_erase (Finset.mem_univ (0 : Fin 128)), Finset.fold_insert (Finset.notMem_erase _ _), refMask_apply]
  have e : seen i 0 = 1#1 := by
    unfold seen
    rw [decide_eq_true (Or.inr (Or.inl (by decide)))]
    rfl
  rw [e]
  generalize Finset.fold IntOp.ori _ _ _ = y
  revert y
  decide

/-- The scores of the reference; -/
theorem refScores_apply (x : FVec Ideal S2x512x512 .f32) (wq : FVec Ideal S512x1024 .f32) (k : FVec Ideal S2x128x16x64 .f32) (b : Fin 2) (h : Fin 16) (i : Fin 512) (t : Fin 128) :
    refScores x wq k (ix4 b h i t) = score (seen i t) (fun d => ∑ e : Fin 512, (x (ix3 b i e) : EReal) * wq (ix2 e (place h d))) (fun d => k (ix4 b t h d)) := by
  rw [← refMask_apply]
  unfold score place
  pointwise [refScores]
  simp only [Nat.mul_comm]

/-- the exponentials; -/
theorem refRisen_apply (s : FVec Ideal S2x16x512x128 .f32) (b : Fin 2) (h : Fin 16) (i : Fin 512) (t : Fin 128) :
    refRisen s (ix4 b h i t) = risen (fun u => s (ix4 b h i u)) t := by
  unfold risen
  pointwise [refRisen]

/-- the weights; -/
theorem refWeights_apply (e : FVec Ideal S2x16x512x128 .f32) (b : Fin 2) (h : Fin 16) (i : Fin 512) (t : Fin 128) :
    refWeights e (ix4 b h i t) = Ideal.div (e (ix4 b h i t)) (∑ u, e (ix4 b h i u)) := by
  pointwise [refWeights]
  rw [refAny_apply]
  rfl

/-- A sum over the 1024 places is one over the heads and their places. -/
theorem sum_places (f : Fin 1024 → EReal) : ∑ y, f y = ∑ h, ∑ d, f (place h d) :=
  (((finProdFinEquiv (m := 16) (n := 64)).sum_comp f).symm.trans (Fintype.sum_prod_type _)).trans
    (Finset.sum_congr rfl fun h _ => Finset.sum_congr rfl fun d _ => congrArg f (Fin.ext (Nat.add_comm _ _)))

/-- and the weighted values against `Wo`. -/
theorem refMixed_apply (w : FVec Ideal S2x16x512x128 .f32) (v : FVec Ideal S2x128x16x64 .f32) (wo : FVec Ideal S1024x512 .f32) (b : Fin 2) (i n : Fin 512) :
    refMixed w v wo (ix3 b i n) = ∑ h : Fin 16, ∑ d : Fin 64, (∑ t : Fin 128, (w (ix4 b h i t) : EReal) * v (ix4 b t h d)) * wo (ix2 (place h d) n) := by
  pointwise [refMixed]
  refine (sum_places _).trans (Finset.sum_congr rfl fun h _ => Finset.sum_congr rfl fun d _ => congrArg (· * _) (Finset.sum_congr rfl fun t _ => ?_))
  have e1 : (⟨(place h d).val / 64, by have := (place h d).isLt; omega⟩ : Fin 16) = h := Fin.ext (by show (64 * h.val + d.val) / 64 = h.val; omega)
  have e2 : (⟨(place h d).val % 64, Nat.mod_lt _ (by decide)⟩ : Fin 64) = d := Fin.ext (by show (64 * h.val + d.val) % 64 = d.val; omega)
  rw [e1, e2, mul_comm]

/-- The steps, one after another, are the attention. -/
theorem steps_apply (x : FVec Ideal S2x512x512 .f32) (wq : FVec Ideal S512x1024 .f32) (k v : FVec Ideal S2x128x16x64 .f32) (wo : FVec Ideal S1024x512 .f32) (b : Fin 2) (i n : Fin 512) :
    refMixed (refWeights (refRisen (refScores x wq k))) v wo (ix3 b i n) = attention x wq k v wo (ix3 b i n) := by
  have e : ∀ (h : Fin 16) (t : Fin 128), refWeights (refRisen (refScores x wq k)) (ix4 b h i t)
      = weight (fun u => score (seen i u) (fun d => ∑ e : Fin 512, (x (ix3 b i e) : EReal) * wq (ix2 e (place h d))) (fun d => k (ix4 b u h d))) t := fun h t => by
    rw [refWeights_apply]
    simp only [refRisen_apply, refScores_apply]
    rfl
  rw [refMixed_apply]
  simp only [e]
  rfl

theorem steps_eq (x : FVec Ideal S2x512x512 .f32) (wq : FVec Ideal S512x1024 .f32) (k v : FVec Ideal S2x128x16x64 .f32) (wo : FVec Ideal S1024x512 .f32) :
    refMixed (refWeights (refRisen (refScores x wq k))) v wo = attention x wq k v wo := by
  funext j
  idx_vars j
  exact steps_apply x wq k v wo _ _ _

/-- The reference's result is the attention of its arguments. -/
theorem result_apply (m : (ℓ : Loc nD τ sig) → Buf (Elt Ideal) ℓ) (c : Dev nD) :
    Value.res_main_v44 m c = attention (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (result_eq m c).trans (steps_eq _ _ _ _ _)

end Cert.RingAttn.Ref

end
-- ==== Proof.Equation.lean ====
/-
The equation: from the same arguments, cut into blocks for the kernel, the kernel's result is the blocks of the
reference's.
-/
module

public import proofs.«01_k».proof.Defs
public import proofs.«01_k».proof.Proof.Frames
public import proofs.«01_k».proof.Proof.Gather
public import proofs.«01_k».proof.Proof.Reference

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Layout

/-! ## The blocks -/

variable (m : (ℓ : Loc nD τ sig) → Buf (Elt Ideal) ℓ)

/-- Arguments cut as the claim cuts them are blocks of the whole arrays. -/
theorem whole_of_blocks (x : (⟨3, ![2, 512, 512]⟩ : Shape).Idx → EReal) (wq : (⟨2, ![512, 1024]⟩ : Shape).Idx → EReal) (k v : (⟨4, ![2, 128, 16, 64]⟩ : Shape).Idx → EReal)
    (wo : (⟨2, ![1024, 512]⟩ : Shape).Idx → EReal)
    (h0 : ∀ c : Dev nD, ofX m c = block ⟨3, ![2, 128, 512]⟩ ⟨3, ![2, 512, 512]⟩ 1 4 c x) (h1 : ∀ c : Dev nD, ofWq m c = block ⟨2, ![512, 256]⟩ ⟨2, ![512, 1024]⟩ 1 4 c wq)
    (h2 : ∀ c : Dev nD, ofK m c = k) (h3 : ∀ c : Dev nD, ofV m c = v) (h4 : ∀ c : Dev nD, ofWo m c = block ⟨2, ![256, 512]⟩ ⟨2, ![1024, 512]⟩ 0 4 c wo) :
    Whole m x wq k v wo where
  x c b r e := by
    rw [h0, block_apply]
    refine congrArg x (funext fun a => Fin.ext ?_)
    rw [Tiles.idx_val]
    match a with
    | 0 => rfl
    | 1 => exact congrArg (· + r.val) (Nat.mul_comm c.val 128)
    | 2 => rfl
  wq d e q h := by
    rw [h1, block_apply]
    refine congrArg wq (funext fun a => Fin.ext ?_)
    rw [Tiles.idx_val]
    match a with
    | 0 => rfl
    | 1 => exact congrArg (· + q.val) (Nat.mul_comm d.val 256)
  k := h2
  v := h3
  wo d q n h := by
    rw [h4, block_apply]
    refine congrArg wo (funext fun a => Fin.ext ?_)
    rw [Tiles.idx_val]
    match a with
    | 0 => exact congrArg (· + q.val) (Nat.mul_comm d.val 256)
    | 1 => rfl

variable {m}

/-- The result block is the device's block of the attention. -/
theorem outAt_block {x : (⟨3, ![2, 512, 512]⟩ : Shape).Idx → EReal} {wq : (⟨2, ![512, 1024]⟩ : Shape).Idx → EReal} {k v : (⟨4, ![2, 128, 16, 64]⟩ : Shape).Idx → EReal}
    {wo : (⟨2, ![1024, 512]⟩ : Shape).Idx → EReal} (W : Whole m x wq k v wo) (c : Dev nD) :
    outAt m c = block ⟨3, ![2, 128, 512]⟩ ⟨3, ![2, 512, 512]⟩ 1 4 c (attention x wq k v wo) := by
  funext (j : S2x128x512.Idx)
  idx_vars j
  rw [outAt_apply W, block_apply]
  refine congrArg (attention x wq k v wo) (funext fun a => Fin.ext ?_)
  rw [Tiles.idx_val]
  match a with
  | 0 => rfl
  | 1 => exact congrArg (· + _) (Nat.mul_comm 128 c.val)
  | 2 => rfl

/-! ## The claim -/

/-- The kernel's result, over the extended reals, is the blocks of the reference's. -/
theorem values_agree : Cert.algebraic_KernelIdeal_ReferenceIdeal (hKernelIdeal := Cert.KernelIdeal.Gen.facts) (hReferenceIdeal := Cert.ReferenceIdeal.Gen.facts) := by
  intro m g m' g' _ H
  refine ⟨Cert.ReferenceIdeal.Value.res_main_v44 m' 0, ?_, (θ_run Cert.ReferenceIdeal.defs _ _).mono (fun _ h => h 0) (Cert.ReferenceIdeal.Value.run (F := Ideal) m' g')⟩
  have W := whole_of_blocks m _ _ _ _ _ (fun c => (H c).1) (fun c => (H c).2.1) (fun c => (H c).2.2.1) (fun c => (H c).2.2.2.1) (fun c => (H c).2.2.2.2)
  refine (θ_run Cert.KernelIdeal.defs _ _).mono (fun r h c => ⟨?_, args_kept m g h.1 c⟩) (run_main (F := Ideal) m g)
  exact (h.1 c (5 : Fin 6)).trans ((final_out m g c).trans ((outAt_block W c).trans (congrArg (block ⟨3, ![2, 128, 512]⟩ ⟨3, ![2, 512, 512]⟩ 1 4 c) (Ref.result_apply m' 0).symm)))

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.RingAttn.frame_kernel, Cert.RingAttn.frame_ideal, Cert.RingAttn.frame_reference, trivial, Cert.RingAttn.values_agree⟩

end Cert.Proof

end
